-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x [hPre_finite_x : Cert.Pre_finite_x.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x [hPre_finite_x : Cert.Pre_finite_x.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x [hKernelIdeal : Cert.KernelIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x [hReferenceIdeal : Cert.ReferenceIdeal.Facts] [hPre_finite_x : Cert.Pre_finite_x.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_x [hKernelIdeal : Cert.KernelIdeal.Facts] [hReferenceIdeal : Cert.ReferenceIdeal.Facts] [hPre_finite_x : Cert.Pre_finite_x.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x : Cert.Pre_finite_x.Facts),
    quiescent_Kernel (hKernel := hKernel)
    ∧ quiescent_KernelIdeal (hKernelIdeal := hKernelIdeal)
    ∧ quiescent_KernelIdeal_pre_finite_x (hKernelIdeal := hKernelIdeal) (hPre_finite_x := hPre_finite_x)
    ∧ quiescent_ReferenceIdeal (hReferenceIdeal := hReferenceIdeal)
    ∧ quiescent_ReferenceIdeal_pre_finite_x (hReferenceIdeal := hReferenceIdeal) (hPre_finite_x := hPre_finite_x)
    ∧ preserves_Kernel_KernelIdeal
    ∧ algebraic_KernelIdeal_ReferenceIdeal_pre_finite_x (hKernelIdeal := hKernelIdeal) (hReferenceIdeal := hReferenceIdeal) (hPre_finite_x := hPre_finite_x)
-- ==== Pre_finite_x.lean ====
abbrev S3x384x4096 : Shape := ⟨3, ![3, 384, 4096]⟩
abbrev S4096 : Shape := ⟨1, ![4096]⟩
abbrev S16 : Shape := ⟨1, ![16]⟩
abbrev S14336x2048 : Shape := ⟨2, ![14336, 2048]⟩
abbrev S14336x4 : Shape := ⟨2, ![14336, 4]⟩
abbrev S_ : Shape := ⟨0, ![]⟩

class Facts : Prop where
  bitsLt_bf16_f32 : FTy.bits .bf16 < FTy.bits .f32
  bcast_S_S3x384x4096 : S_.BroadcastsInDim S3x384x4096 (![] : Fin 0 → Fin S3x384x4096.rank)

variable [Facts]

def fn {F : FTy → Type} [FloatOps F] (main_arg0 : FVec F S3x384x4096 .bf16) (main_arg1 : IVec S4096 8) (main_arg2 : FVec F S16 .bf16) (main_arg3 : IVec S14336x2048 8) (main_arg4 : FVec F S14336x4 .f32) : IVec S3x384x4096 1 :=
  let main_v0 : FVec F S3x384x4096 .f32 := (extf .f32 · bitsLt_bf16_f32) main_arg0
  let main_v1 : FVec F S3x384x4096 .f32 := Host.absf main_v0
  let main_cst : FVec F S_ .f32 := constant S_ .f32 0x7F800000#32
  let main_v2 : FVec F S3x384x4096 .f32 := broadcastInDim S3x384x4096 ![] bcast_S_S3x384x4096 main_cst
  let main_v3 : IVec S3x384x4096 1 := cmpf .olt main_v1 main_v2
  main_v3
-- ==== Kernel.lean ====
abbrev S3x384x4096 : Shape := ⟨3, ![3, 384, 4096]⟩
abbrev S4096 : Shape := ⟨1, ![4096]⟩
abbrev S16 : Shape := ⟨1, ![16]⟩
abbrev S14336x2048 : Shape := ⟨2, ![14336, 2048]⟩
abbrev S14336x4 : Shape := ⟨2, ![14336, 4]⟩
abbrev S1x4096 : Shape := ⟨2, ![1, 4096]⟩
abbrev S1152x4096 : Shape := ⟨2, ![1152, 4096]⟩
abbrev S256x256 : Shape := ⟨2, ![256, 256]⟩
abbrev S_ : Shape := ⟨0, ![]⟩
abbrev S1152x14336 : Shape := ⟨2, ![1152, 14336]⟩
abbrev S512x2048 : Shape := ⟨2, ![512, 2048]⟩
abbrev S512x4 : Shape := ⟨2, ![512, 4]⟩
abbrev S1152x512 : Shape := ⟨2, ![1152, 512]⟩
abbrev S512x4096 : Shape := ⟨2, ![512, 4096]⟩
abbrev S128x256 : Shape := ⟨2, ![128, 256]⟩
abbrev S1x256 : Shape := ⟨2, ![1, 256]⟩
abbrev S1 : Shape := ⟨1, ![1]⟩
abbrev S512x128 : Shape := ⟨2, ![512, 128]⟩
abbrev S512x1 : Shape := ⟨2, ![512, 1]⟩

abbrev nBuf : Space → Nat
  | .hbm => 62
  | .vmem => 13
  | .smem => 1
  | _ => 0

abbrev bufTy : (tb : Table) → Fin (tcTables nBuf tb) → BufTy
  | .hbm, ⟨0, _⟩ => ⟨S3x384x4096, .bf16⟩
  | .hbm, ⟨1, _⟩ => ⟨S4096, .i8⟩
  | .hbm, ⟨2, _⟩ => ⟨S16, .bf16⟩
  | .hbm, ⟨3, _⟩ => ⟨S14336x2048, .i8⟩
  | .hbm, ⟨4, _⟩ => ⟨S14336x4, .f32⟩
  | .hbm, ⟨5, _⟩ => ⟨S4096, .i32⟩
  | .hbm, ⟨6, _⟩ => ⟨S4096, .bf16⟩
  | .hbm, ⟨7, _⟩ => ⟨S1x4096, .bf16⟩
  | .hbm, ⟨8, _⟩ => ⟨S16, .f32⟩
  | .hbm, ⟨9, _⟩ => ⟨S1152x4096, .bf16⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S256x256, .i32⟩
  | .hbm, ⟨38, _⟩ => ⟨S256x256, .i32⟩
  | .hbm, ⟨39, _⟩ => ⟨S256x256, .bf16⟩
  | .hbm, ⟨40, _⟩ => ⟨S256x256, .i32⟩
  | .hbm, ⟨41, _⟩ => ⟨S_, .i32⟩
  | .hbm, ⟨42, _⟩ => ⟨S256x256, .i32⟩
  | .hbm, ⟨43, _⟩ => ⟨S256x256, .i1⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S256x256, .i32⟩
  | .hbm, ⟨57, _⟩ => ⟨S256x256, .i32⟩
  | .hbm, ⟨58, _⟩ => ⟨S256x256, .i1⟩
  | .hbm, ⟨59, _⟩ => ⟨S256x256, .bf16⟩
  | .hbm, ⟨60, _⟩ => ⟨S1152x14336, .bf16⟩
  | .hbm, ⟨61, _⟩ => ⟨S1152x4096, .bf16⟩
  | .local _ .vmem, ⟨0, _⟩ => ⟨S1152x4096, .bf16⟩
  | .local _ .vmem, ⟨1, _⟩ => ⟨S1x4096, .bf16⟩
  | .local _ .vmem, ⟨2, _⟩ => ⟨S256x256, .bf16⟩
  | .local _ .vmem, ⟨3, _⟩ => ⟨S256x256, .bf16⟩
  | .local _ .vmem, ⟨4, _⟩ => ⟨S512x2048, .i8⟩
  | .local _ .vmem, ⟨5, _⟩ => ⟨S512x2048, .i8⟩
  | .local _ .vmem, ⟨6, _⟩ => ⟨S512x4, .f32⟩
  | .local _ .vmem, ⟨7, _⟩ => ⟨S512x4, .f32⟩
  | .local _ .vmem, ⟨8, _⟩ => ⟨S1152x512, .bf16⟩
  | .local _ .vmem, ⟨9, _⟩ => ⟨S1152x512, .bf16⟩
  | .local _ .vmem, ⟨10, _⟩ => ⟨S1152x4096, .bf16⟩
  | .local _ .vmem, ⟨11, _⟩ => ⟨S1152x4096, .bf16⟩
  | .local _ .vmem, ⟨12, _⟩ => ⟨S512x4096, .bf16⟩
  | .local _ .smem, ⟨0, _⟩ => ⟨S16, .f32⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_347 : BitVec 32 := 0#32
  let c9_i32 : BitVec 32 := 9#32
  let v1256 : BitVec 32 := Scalar.addi c0_i32_347 c9_i32
  let c1_i32 : BitVec 32 := 1#32
  ⟨c0_i32_347, v1256, c1_i32⟩
def k0_off1 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1260 : Index := Scalar.indexCast v1259
  let c0_351 : Index := 0#32
  ![v1260.toNat, 0]
def k0_off2 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1270 : Index := Scalar.indexCast v1259
  let c256_357 : Index := 256#32
  ![v1270.toNat, 256]
def k0_off3 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1280 : Index := Scalar.indexCast v1259
  let c512_363 : Index := 512#32
  ![v1280.toNat, 512]
def k0_off4 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1290 : Index := Scalar.indexCast v1259
  let c768_369 : Index := 768#32
  ![v1290.toNat, 768]
def k0_off5 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1360 : Index := Scalar.indexCast v1259
  let c1024_399 : Index := 1024#32
  ![v1360.toNat, 1024]
def k0_off6 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1370 : Index := Scalar.indexCast v1259
  let c1280_405 : Index := 1280#32
  ![v1370.toNat, 1280]
def k0_off7 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1380 : Index := Scalar.indexCast v1259
  let c1536_411 : Index := 1536#32
  ![v1380.toNat, 1536]
def k0_off8 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1390 : Index := Scalar.indexCast v1259
  let c1792_417 : Index := 1792#32
  ![v1390.toNat, 1792]
def k0_off9 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1460 : Index := Scalar.indexCast v1259
  let c2048_447 : Index := 2048#32
  ![v1460.toNat, 2048]
def k0_off10 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1470 : Index := Scalar.indexCast v1259
  let c2304_453 : Index := 2304#32
  ![v1470.toNat, 2304]
def k0_off11 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1480 : Index := Scalar.indexCast v1259
  let c2560_459 : Index := 2560#32
  ![v1480.toNat, 2560]
def k0_off12 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1490 : Index := Scalar.indexCast v1259
  let c2816_465 : Index := 2816#32
  ![v1490.toNat, 2816]
def k0_off13 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1560 : Index := Scalar.indexCast v1259
  let c3072_495 : Index := 3072#32
  ![v1560.toNat, 3072]
def k0_off14 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1570 : Index := Scalar.indexCast v1259
  let c3328_501 : Index := 3328#32
  ![v1570.toNat, 3328]
def k0_off15 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1580 : Index := Scalar.indexCast v1259
  let c3584_507 : Index := 3584#32
  ![v1580.toNat, 3584]
def k0_off16 (k0_t1 : Fin k0_t1_loop.trips) : Fin 2 → Nat :=
  let c0_i32_350 : BitVec 32 := 0#32
  let c0_i32_347 : BitVec 32 := 0#32
  let c1_i32 : BitVec 32 := 1#32
  let arg12 : BitVec 32 := Scf.iv c0_i32_347 c1_i32 k0_t1
  let c1_i32_349 : BitVec 32 := 1#32
  let v1257 : BitVec 32 := Scalar.muli arg12 c1_i32_349
  let v1258 : BitVec 32 := Scalar.addi c0_i32_350 v1257
  let c128_i32 : BitVec 32 := 128#32
  let v1259 : BitVec 32 := Scalar.muli v1258 c128_i32
  let v1590 : Index := Scalar.indexCast v1259
  let c3840_513 : Index := 3840#32
  ![v1590.toNat, 3840]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1152x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1152x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S3x384x4096 : Shape := ⟨3, ![3, 384, 4096]⟩
abbrev S4096 : Shape := ⟨1, ![4096]⟩
abbrev S16 : Shape := ⟨1, ![16]⟩
abbrev S14336x2048 : Shape := ⟨2, ![14336, 2048]⟩
abbrev S14336x4 : Shape := ⟨2, ![14336, 4]⟩
abbrev S4x1024 : Shape := ⟨2, ![4, 1024]⟩
abbrev S1152x4x1024 : Shape := ⟨3, ![1152, 4, 1024]⟩
abbrev S1x4x1024 : Shape := ⟨3, ![1, 4, 1024]⟩
abbrev S1024 : Shape := ⟨1, ![1024]⟩
abbrev S1024x1 : Shape := ⟨2, ![1024, 1]⟩
abbrev S1024x512 : Shape := ⟨2, ![1024, 512]⟩
abbrev S512 : Shape := ⟨1, ![512]⟩
abbrev S1x512 : Shape := ⟨2, ![1, 512]⟩
abbrev S_ : Shape := ⟨0, ![]⟩
abbrev S1152x4x512 : Shape := ⟨3, ![1152, 4, 512]⟩
abbrev S1152x4x512x1 : Shape := ⟨4, ![1152, 4, 512, 1]⟩
abbrev S1152x4x512x2 : Shape := ⟨4, ![1152, 4, 512, 2]⟩
abbrev S1152x4096 : Shape := ⟨2, ![1152, 4096]⟩
abbrev S14336x4x1 : Shape := ⟨3, ![14336, 4, 1]⟩
abbrev S1 : Shape := ⟨1, ![1]⟩
abbrev S14336x4x512 : Shape := ⟨3, ![14336, 4, 512]⟩
abbrev S1152x2048 : Shape := ⟨2, ![1152, 2048]⟩
abbrev S1152x14336 : Shape := ⟨2, ![1152, 14336]⟩

abbrev nBuf : Space → Nat
  | .hbm => 295
  | .vmem => 0
  | .smem => 0
  | _ => 0

abbrev hbmTy0_0 (i : Nat) : BufTy := match i % 128 with
  | 0 => ⟨S3x384x4096, .bf16⟩
  | 1 => ⟨S4096, .i8⟩
  | 2 => ⟨S16, .bf16⟩
  | 3 => ⟨S14336x2048, .i8⟩
  | 4 => ⟨S14336x4, .f32⟩
  | 5 => ⟨S4096, .i32⟩
  | 6 => ⟨S4096, .bf16⟩
  | 7 => ⟨S4x1024, .bf16⟩
  | 8 => ⟨S1152x4x1024, .bf16⟩
  | 9 => ⟨S1x4x1024, .bf16⟩
  | 10 => ⟨S1152x4x1024, .bf16⟩
  | 11 => ⟨S1152x4x1024, .bf16⟩
  | 12 => ⟨S1024, .i32⟩
  | 13 => ⟨S1024x1, .i32⟩
  | 14 => ⟨S1024x512, .i32⟩
  | 15 => ⟨S512, .i32⟩
  | 16 => ⟨S1x512, .i32⟩
  | 17 => ⟨S1024x512, .i32⟩
  | 18 => ⟨S_, .i32⟩
  | 19 => ⟨S1024x512, .i32⟩
  | 20 => ⟨S1024x512, .i32⟩
  | 21 => ⟨S_, .i32⟩
  | 22 => ⟨S1024x512, .i32⟩
  | 23 => ⟨S1024x512, .i32⟩
  | 24 => ⟨S1024x512, .i32⟩
  | 25 => ⟨S1024x512, .i32⟩
  | 26 => ⟨S_, .i32⟩
  | 27 => ⟨S1024x512, .i32⟩
  | 28 => ⟨S1024x512, .i32⟩
  | 29 => ⟨S_, .i32⟩
  | 30 => ⟨S1024x512, .i32⟩
  | 31 => ⟨S1024x512, .i32⟩
  | 32 => ⟨S_, .i32⟩
  | 33 => ⟨S1024x512, .i32⟩
  | 34 => ⟨S1024x512, .i32⟩
  | 35 => ⟨S1024x512, .bf16⟩
  | 36 => ⟨S1152x4x512, .f32⟩
  | 37 => ⟨S1024, .i32⟩
  | 38 => ⟨S1024x1, .i32⟩
  | 39 => ⟨S1024x512, .i32⟩
  | 40 => ⟨S512, .i32⟩
  | 41 => ⟨S1x512, .i32⟩
  | 42 => ⟨S1024x512, .i32⟩
  | 43 => ⟨S_, .i32⟩
  | 44 => ⟨S1024x512, .i32⟩
  | 45 => ⟨S1024x512, .i32⟩
  | 46 => ⟨S_, .i32⟩
  | 47 => ⟨S1024x512, .i32⟩
  | 48 => ⟨S1024x512, .i32⟩
  | 49 => ⟨S1024x512, .i32⟩
  | 50 => ⟨S1024x512, .i32⟩
  | 51 => ⟨S_, .i32⟩
  | 52 => ⟨S1024x512, .i32⟩
  | 53 => ⟨S1024x512, .i32⟩
  | 54 => ⟨S_, .i32⟩
  | 55 => ⟨S1024x512, .i32⟩
  | 56 => ⟨S1024x512, .i32⟩
  | 57 => ⟨S_, .i32⟩
  | 58 => ⟨S1024x512, .i32⟩
  | 59 => ⟨S1024x512, .i32⟩
  | 60 => ⟨S1024x512, .bf16⟩
  | 61 => ⟨S1152x4x512, .f32⟩
  | 62 => ⟨S_, .f32⟩
  | 63 => ⟨S1152x4x512, .f32⟩
  | 64 => ⟨S1152x4x512, .f32⟩
  | 65 => ⟨S1152x4x512, .bf16⟩
  | 66 => ⟨S_, .f32⟩
  | 67 => ⟨S1152x4x512, .f32⟩
  | 68 => ⟨S1152x4x512, .f32⟩
  | 69 => ⟨S1152x4x512, .bf16⟩
  | 70 => ⟨S1152x4x512x1, .bf16⟩
  | 71 => ⟨S1152x4x512x1, .bf16⟩
  | 72 => ⟨S1152x4x512x2, .bf16⟩
  | 73 => ⟨S1152x4096, .bf16⟩
  | 74 => ⟨S14336x4, .bf16⟩
  | 75 => ⟨S14336x4x1, .bf16⟩
  | 76 => ⟨S14336x2048, .i32⟩
  | 77 => ⟨S_, .i32⟩
  | 78 => ⟨S14336x2048, .i32⟩
  | 79 => ⟨S14336x2048, .i32⟩
  | 80 => ⟨S_, .i32⟩
  | 81 => ⟨S14336x2048, .i32⟩
  | 82 => ⟨S14336x2048, .i32⟩
  | 83 => ⟨S1, .bf16⟩
  | 84 => ⟨S_, .bf16⟩
  | 85 => ⟨S1, .bf16⟩
  | 86 => ⟨S_, .bf16⟩
  | 87 => ⟨S1, .bf16⟩
  | 88 => ⟨S_, .bf16⟩
  | 89 => ⟨S1, .bf16⟩
  | 90 => ⟨S_, .bf16⟩
  | 91 => ⟨S1, .bf16⟩
  | 92 => ⟨S_, .bf16⟩
  | 93 => ⟨S1, .bf16⟩
  | 94 => ⟨S_, .bf16⟩
  | 95 => ⟨S1, .bf16⟩
  | 96 => ⟨S_, .bf16⟩
  | 97 => ⟨S1, .bf16⟩
  | 98 => ⟨S_, .bf16⟩
  | 99 => ⟨S1, .bf16⟩
  | 100 => ⟨S_, .bf16⟩
  | 101 => ⟨S1, .bf16⟩
  | 102 => ⟨S_, .bf16⟩
  | 103 => ⟨S1, .bf16⟩
  | 104 => ⟨S_, .bf16⟩
  | 105 => ⟨S1, .bf16⟩
  | 106 => ⟨S_, .bf16⟩
  | 107 => ⟨S1, .bf16⟩
  | 108 => ⟨S_, .bf16⟩
  | 109 => ⟨S1, .bf16⟩
  | 110 => ⟨S_, .bf16⟩
  | 111 => ⟨S1, .bf16⟩
  | 112 => ⟨S_, .bf16⟩
  | 113 => ⟨S1, .bf16⟩
  | 114 => ⟨S_, .bf16⟩
  | 115 => ⟨S_, .i32⟩
  | 116 => ⟨S14336x2048, .i32⟩
  | 117 => ⟨S14336x2048, .i32⟩
  | 118 => ⟨S_, .i32⟩
  | 119 => ⟨S14336x2048, .i32⟩
  | 120 => ⟨S14336x2048, .i32⟩
  | 121 => ⟨S_, .i32⟩
  | 122 => ⟨S14336x2048, .i32⟩
  | 123 => ⟨S14336x2048, .i1⟩
  | 124 => ⟨S14336x2048, .bf16⟩
  | 125 => ⟨S14336x2048, .bf16⟩
  | 126 => ⟨S14336x2048, .bf16⟩
  | 127 => ⟨S14336x2048, .bf16⟩
  | _ => ⟨S3x384x4096, .bf16⟩

abbrev hbmTy0_1 (i : Nat) : BufTy := match i % 128 with
  | 0 => ⟨S14336x2048, .bf16⟩
  | 1 => ⟨S14336x2048, .bf16⟩
  | 2 => ⟨S14336x2048, .bf16⟩
  | 3 => ⟨S14336x2048, .bf16⟩
  | 4 => ⟨S14336x2048, .bf16⟩
  | 5 => ⟨S14336x2048, .bf16⟩
  | 6 => ⟨S14336x2048, .bf16⟩
  | 7 => ⟨S14336x2048, .bf16⟩
  | 8 => ⟨S14336x2048, .bf16⟩
  | 9 => ⟨S14336x2048, .bf16⟩
  | 10 => ⟨S14336x2048, .bf16⟩
  | 11 => ⟨S14336x2048, .bf16⟩
  | 12 => ⟨S14336x2048, .bf16⟩
  | 13 => ⟨S14336x2048, .bf16⟩
  | 14 => ⟨S14336x2048, .bf16⟩
  | 15 => ⟨S14336x2048, .bf16⟩
  | 16 => ⟨S14336x2048, .bf16⟩
  | 17 => ⟨S14336x2048, .bf16⟩
  | 18 => ⟨S14336x2048, .bf16⟩
  | 19 => ⟨S14336x2048, .bf16⟩
  | 20 => ⟨S_, .i32⟩
  | 21 => ⟨S14336x2048, .i32⟩
  | 22 => ⟨S14336x2048, .i32⟩
  | 23 => ⟨S_, .i32⟩
  | 24 => ⟨S14336x2048, .i32⟩
  | 25 => ⟨S14336x2048, .i32⟩
  | 26 => ⟨S_, .i32⟩
  | 27 => ⟨S14336x2048, .i32⟩
  | 28 => ⟨S14336x2048, .i1⟩
  | 29 => ⟨S14336x2048, .bf16⟩
  | 30 => ⟨S14336x2048, .bf16⟩
  | 31 => ⟨S14336x2048, .bf16⟩
  | 32 => ⟨S14336x2048, .bf16⟩
  | 33 => ⟨S_, .i32⟩
  | 34 => ⟨S14336x2048, .i32⟩
  | 35 => ⟨S14336x2048, .i32⟩
  | 36 => ⟨S_, .i32⟩
  | 37 => ⟨S14336x2048, .i32⟩
  | 38 => ⟨S14336x2048, .i32⟩
  | 39 => ⟨S_, .i32⟩
  | 40 => ⟨S14336x2048, .i32⟩
  | 41 => ⟨S14336x2048, .i1⟩
  | 42 => ⟨S14336x2048, .bf16⟩
  | 43 => ⟨S14336x2048, .bf16⟩
  | 44 => ⟨S_, .i32⟩
  | 45 => ⟨S14336x2048, .i32⟩
  | 46 => ⟨S14336x2048, .i32⟩
  | 47 => ⟨S_, .i32⟩
  | 48 => ⟨S14336x2048, .i32⟩
  | 49 => ⟨S14336x2048, .i32⟩
  | 50 => ⟨S_, .i32⟩
  | 51 => ⟨S14336x2048, .i32⟩
  | 52 => ⟨S14336x2048, .i1⟩
  | 53 => ⟨S14336x2048, .bf16⟩
  | 54 => ⟨S14336x4x512, .bf16⟩
  | 55 => ⟨S14336x4x512, .bf16⟩
  | 56 => ⟨S14336x4x512, .bf16⟩
  | 57 => ⟨S14336x2048, .bf16⟩
  | 58 => ⟨S1, .bf16⟩
  | 59 => ⟨S_, .bf16⟩
  | 60 => ⟨S1, .bf16⟩
  | 61 => ⟨S_, .bf16⟩
  | 62 => ⟨S1, .bf16⟩
  | 63 => ⟨S_, .bf16⟩
  | 64 => ⟨S1, .bf16⟩
  | 65 => ⟨S_, .bf16⟩
  | 66 => ⟨S1, .bf16⟩
  | 67 => ⟨S_, .bf16⟩
  | 68 => ⟨S1, .bf16⟩
  | 69 => ⟨S_, .bf16⟩
  | 70 => ⟨S1, .bf16⟩
  | 71 => ⟨S_, .bf16⟩
  | 72 => ⟨S1, .bf16⟩
  | 73 => ⟨S_, .bf16⟩
  | 74 => ⟨S1, .bf16⟩
  | 75 => ⟨S_, .bf16⟩
  | 76 => ⟨S1, .bf16⟩
  | 77 => ⟨S_, .bf16⟩
  | 78 => ⟨S1, .bf16⟩
  | 79 => ⟨S_, .bf16⟩
  | 80 => ⟨S1, .bf16⟩
  | 81 => ⟨S_, .bf16⟩
  | 82 => ⟨S1, .bf16⟩
  | 83 => ⟨S_, .bf16⟩
  | 84 => ⟨S1, .bf16⟩
  | 85 => ⟨S_, .bf16⟩
  | 86 => ⟨S1, .bf16⟩
  | 87 => ⟨S_, .bf16⟩
  | 88 => ⟨S1, .bf16⟩
  | 89 => ⟨S_, .bf16⟩
  | 90 => ⟨S_, .i32⟩
  | 91 => ⟨S14336x2048, .i32⟩
  | 92 => ⟨S14336x2048, .i32⟩
  | 93 => ⟨S_, .i32⟩
  | 94 => ⟨S14336x2048, .i32⟩
  | 95 => ⟨S14336x2048, .i32⟩
  | 96 => ⟨S_, .i32⟩
  | 97 => ⟨S14336x2048, .i32⟩
  | 98 => ⟨S14336x2048, .i1⟩
  | 99 => ⟨S14336x2048, .bf16⟩
  | 100 => ⟨S14336x2048, .bf16⟩
  | 101 => ⟨S14336x2048, .bf16⟩
  | 102 => ⟨S14336x2048, .bf16⟩
  | 103 => ⟨S14336x2048, .bf16⟩
  | 104 => ⟨S14336x2048, .bf16⟩
  | 105 => ⟨S14336x2048, .bf16⟩
  | 106 => ⟨S14336x2048, .bf16⟩
  | 107 => ⟨S14336x2048, .bf16⟩
  | 108 => ⟨S14336x2048, .bf16⟩
  | 109 => ⟨S14336x2048, .bf16⟩
  | 110 => ⟨S14336x2048, .bf16⟩
  | 111 => ⟨S14336x2048, .bf16⟩
  | 112 => ⟨S14336x2048, .bf16⟩
  | 113 => ⟨S14336x2048, .bf16⟩
  | 114 => ⟨S14336x2048, .bf16⟩
  | 115 => ⟨S14336x2048, .bf16⟩
  | 116 => ⟨S14336x2048, .bf16⟩
  | 117 => ⟨S14336x2048, .bf16⟩
  | 118 => ⟨S14336x2048, .bf16⟩
  | 119 => ⟨S14336x2048, .bf16⟩
  | 120 => ⟨S14336x2048, .bf16⟩
  | 121 => ⟨S14336x2048, .bf16⟩
  | 122 => ⟨S14336x2048, .bf16⟩
  | 123 => ⟨S_, .i32⟩
  | 124 => ⟨S14336x2048, .i32⟩
  | 125 => ⟨S14336x2048, .i32⟩
  | 126 => ⟨S_, .i32⟩
  | 127 => ⟨S14336x2048, .i32⟩
  | _ => ⟨S3x384x4096, .bf16⟩

abbrev hbmTy0_2 (i : Nat) : BufTy := match i % 128 with
  | 0 => ⟨S14336x2048, .i32⟩
  | 1 => ⟨S_, .i32⟩
  | 2 => ⟨S14336x2048, .i32⟩
  | 3 => ⟨S14336x2048, .i1⟩
  | 4 => ⟨S14336x2048, .bf16⟩
  | 5 => ⟨S14336x2048, .bf16⟩
  | 6 => ⟨S14336x2048, .bf16⟩
  | 7 => ⟨S14336x2048, .bf16⟩
  | 8 => ⟨S_, .i32⟩
  | 9 => ⟨S14336x2048, .i32⟩
  | 10 => ⟨S14336x2048, .i32⟩
  | 11 => ⟨S_, .i32⟩
  | 12 => ⟨S14336x2048, .i32⟩
  | 13 => ⟨S14336x2048, .i32⟩
  | 14 => ⟨S_, .i32⟩
  | 15 => ⟨S14336x2048, .i32⟩
  | 16 => ⟨S14336x2048, .i1⟩
  | 17 => ⟨S14336x2048, .bf16⟩
  | 18 => ⟨S14336x2048, .bf16⟩
  | 19 => ⟨S_, .i32⟩
  | 20 => ⟨S14336x2048, .i32⟩
  | 21 => ⟨S14336x2048, .i32⟩
  | 22 => ⟨S_, .i32⟩
  | 23 => ⟨S14336x2048, .i32⟩
  | 24 => ⟨S14336x2048, .i32⟩
  | 25 => ⟨S_, .i32⟩
  | 26 => ⟨S14336x2048, .i32⟩
  | 27 => ⟨S14336x2048, .i1⟩
  | 28 => ⟨S14336x2048, .bf16⟩
  | 29 => ⟨S14336x4x512, .bf16⟩
  | 30 => ⟨S14336x4x512, .bf16⟩
  | 31 => ⟨S14336x4x512, .bf16⟩
  | 32 => ⟨S14336x2048, .bf16⟩
  | 33 => ⟨S1152x2048, .bf16⟩
  | 34 => ⟨S1152x14336, .f32⟩
  | 35 => ⟨S1152x2048, .bf16⟩
  | 36 => ⟨S1152x14336, .f32⟩
  | 37 => ⟨S1152x14336, .f32⟩
  | 38 => ⟨S1152x14336, .bf16⟩
  | _ => ⟨S3x384x4096, .bf16⟩

abbrev hbmTy (i : Nat) : BufTy := match i / 128 with
  | 0 => hbmTy0_0 i
  | 1 => hbmTy0_1 i
  | 2 => hbmTy0_2 i
  | _ => ⟨S3x384x4096, .bf16⟩

abbrev bufTy : (tb : Table) → Fin (tcTables nBuf tb) → BufTy
  | .hbm, ⟨i, _⟩ => hbmTy i
  | _, _ => ⟨S3x384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_10 : Ref sig .tc := ⟨.hbm, 77, rfl⟩
abbrev main_v60 : Ref sig .tc := ⟨.hbm, 78, rfl⟩
abbrev main_v61 : Ref sig .tc := ⟨.hbm, 79, rfl⟩
abbrev main_c_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_c_12 : Ref sig .tc := ⟨.hbm, 115, rfl⟩
abbrev main_v96 : Ref sig .tc := ⟨.hbm, 116, rfl⟩
abbrev main_v97 : Ref sig .tc := ⟨.hbm, 117, rfl⟩
abbrev main_c_13 : Ref sig .tc := ⟨.hbm, 118, rfl⟩
abbrev main_v98 : Ref sig .tc := ⟨.hbm, 119, rfl⟩
abbrev main_v99 : Ref sig .tc := ⟨.hbm, 120, rfl⟩
abbrev main_c_14 : Ref sig .tc := ⟨.hbm, 121, rfl⟩
abbrev main_v100 : Ref sig .tc := ⟨.hbm, 122, rfl⟩
abbrev main_v101 : Ref sig .tc := ⟨.hbm, 123, rfl⟩
abbrev main_call0_v0 : Ref sig .tc := ⟨.hbm, 124, rfl⟩
abbrev main_call0_v1 : Ref sig .tc := ⟨.hbm, 125, rfl⟩
abbrev main_v102 : Ref sig .tc := ⟨.hbm, 126, rfl⟩
abbrev main_call1_v0 : Ref sig .tc := ⟨.hbm, 127, rfl⟩
abbrev main_call1_v1 : Ref sig .tc := ⟨.hbm, 128, rfl⟩
abbrev main_v103 : Ref sig .tc := ⟨.hbm, 129, rfl⟩
abbrev main_call2_v0 : Ref sig .tc := ⟨.hbm, 130, rfl⟩
abbrev main_call2_v1 : Ref sig .tc := ⟨.hbm, 131, rfl⟩
abbrev main_v104 : Ref sig .tc := ⟨.hbm, 132, rfl⟩
abbrev main_call3_v0 : Ref sig .tc := ⟨.hbm, 133, rfl⟩
abbrev main_call3_v1 : Ref sig .tc := ⟨.hbm, 134, rfl⟩
abbrev main_v105 : Ref sig .tc := ⟨.hbm, 135, rfl⟩
abbrev main_call4_v0 : Ref sig .tc := ⟨.hbm, 136, rfl⟩
abbrev main_call4_v1 : Ref sig .tc := ⟨.hbm, 137, rfl⟩
abbrev main_v106 : Ref sig .tc := ⟨.hbm, 138, rfl⟩
abbrev main_call5_v0 : Ref sig .tc := ⟨.hbm, 139, rfl⟩
abbrev main_call5_v1 : Ref sig .tc := ⟨.hbm, 140, rfl⟩
abbrev main_v107 : Ref sig .tc := ⟨.hbm, 141, rfl⟩
abbrev main_call6_v0 : Ref sig .tc := ⟨.hbm, 142, rfl⟩
abbrev main_call6_v1 : Ref sig .tc := ⟨.hbm, 143, rfl⟩
abbrev main_v108 : Ref sig .tc := ⟨.hbm, 144, rfl⟩
abbrev main_call7_v0 : Ref sig .tc := ⟨.hbm, 145, rfl⟩
abbrev main_call7_v1 : Ref sig .tc := ⟨.hbm, 146, rfl⟩
abbrev main_v109 : Ref sig .tc := ⟨.hbm, 147, rfl⟩
abbrev main_c_15 : Ref sig .tc := ⟨.hbm, 148, rfl⟩
abbrev main_v110 : Ref sig .tc := ⟨.hbm, 149, rfl⟩
abbrev main_v111 : Ref sig .tc := ⟨.hbm, 150, rfl⟩
abbrev main_c_16 : Ref sig .tc := ⟨.hbm, 151, rfl⟩
abbrev main_v112 : Ref sig .tc := ⟨.hbm, 152, rfl⟩
abbrev main_v113 : Ref sig .tc := ⟨.hbm, 153, rfl⟩
abbrev main_c_17 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_c_18 : Ref sig .tc := ⟨.hbm, 161, rfl⟩
abbrev main_v120 : Ref sig .tc := ⟨.hbm, 162, rfl⟩
abbrev main_v121 : Ref sig .tc := ⟨.hbm, 163, rfl⟩
abbrev main_c_19 : Ref sig .tc := ⟨.hbm, 164, rfl⟩
abbrev main_v122 : Ref sig .tc := ⟨.hbm, 165, rfl⟩
abbrev main_v123 : Ref sig .tc := ⟨.hbm, 166, rfl⟩
abbrev main_c_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_21 : Ref sig .tc := ⟨.hbm, 172, rfl⟩
abbrev main_v128 : Ref sig .tc := ⟨.hbm, 173, rfl⟩
abbrev main_v129 : Ref sig .tc := ⟨.hbm, 174, rfl⟩
abbrev main_c_22 : Ref sig .tc := ⟨.hbm, 175, rfl⟩
abbrev main_v130 : Ref sig .tc := ⟨.hbm, 176, rfl⟩
abbrev main_v131 : Ref sig .tc := ⟨.hbm, 177, rfl⟩
abbrev main_c_23 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_c_24 : Ref sig .tc := ⟨.hbm, 218, rfl⟩
abbrev main_v171 : Ref sig .tc := ⟨.hbm, 219, rfl⟩
abbrev main_v172 : Ref sig .tc := ⟨.hbm, 220, rfl⟩
abbrev main_c_25 : Ref sig .tc := ⟨.hbm, 221, rfl⟩
abbrev main_v173 : Ref sig .tc := ⟨.hbm, 222, rfl⟩
abbrev main_v174 : Ref sig .tc := ⟨.hbm, 223, rfl⟩
abbrev main_c_26 : Ref sig .tc := ⟨.hbm, 224, rfl⟩
abbrev main_v175 : Ref sig .tc := ⟨.hbm, 225, rfl⟩
abbrev main_v176 : Ref sig .tc := ⟨.hbm, 226, rfl⟩
abbrev main_call15_v0 : Ref sig .tc := ⟨.hbm, 227, rfl⟩
abbrev main_call15_v1 : Ref sig .tc := ⟨.hbm, 228, rfl⟩
abbrev main_v177 : Ref sig .tc := ⟨.hbm, 229, rfl⟩
abbrev main_call16_v0 : Ref sig .tc := ⟨.hbm, 230, rfl⟩
abbrev main_call16_v1 : Ref sig .tc := ⟨.hbm, 231, rfl⟩
abbrev main_v178 : Ref sig .tc := ⟨.hbm, 232, rfl⟩
abbrev main_call17_v0 : Ref sig .tc := ⟨.hbm, 233, rfl⟩
abbrev main_call17_v1 : Ref sig .tc := ⟨.hbm, 234, rfl⟩
abbrev main_v179 : Ref sig .tc := ⟨.hbm, 235, rfl⟩
abbrev main_call18_v0 : Ref sig .tc := ⟨.hbm, 236, rfl⟩
abbrev main_call18_v1 : Ref sig .tc := ⟨.hbm, 237, rfl⟩
abbrev main_v180 : Ref sig .tc := ⟨.hbm, 238, rfl⟩
abbrev main_call19_v0 : Ref sig .tc := ⟨.hbm, 239, rfl⟩
abbrev main_call19_v1 : Ref sig .tc := ⟨.hbm, 240, rfl⟩
abbrev main_v181 : Ref sig .tc := ⟨.hbm, 241, rfl⟩
abbrev main_call20_v0 : Ref sig .tc := ⟨.hbm, 242, rfl⟩
abbrev main_call20_v1 : Ref sig .tc := ⟨.hbm, 243, rfl⟩
abbrev main_v182 : Ref sig .tc := ⟨.hbm, 244, rfl⟩
abbrev main_call21_v0 : Ref sig .tc := ⟨.hbm, 245, rfl⟩
abbrev main_call21_v1 : Ref sig .tc := ⟨.hbm, 246, rfl⟩
abbrev main_v183 : Ref sig .tc := ⟨.hbm, 247, rfl⟩
abbrev main_call22_v0 : Ref sig .tc := ⟨.hbm, 248, rfl⟩
abbrev main_call22_v1 : Ref sig .tc := ⟨.hbm, 249, rfl⟩
abbrev main_v184 : Ref sig .tc := ⟨.hbm, 250, rfl⟩
abbrev main_c_27 : Ref sig .tc := ⟨.hbm, 251, rfl⟩
abbrev main_v185 : Ref sig .tc := ⟨.hbm, 252, rfl⟩
abbrev main_v186 : Ref sig .tc := ⟨.hbm, 253, rfl⟩
abbrev main_c_28 : Ref sig .tc := ⟨.hbm, 254, rfl⟩
abbrev main_v187 : Ref sig .tc := ⟨.hbm, 255, rfl⟩
abbrev main_v188 : Ref sig .tc := ⟨.hbm, 256, rfl⟩
abbrev main_c_29 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_c_30 : Ref sig .tc := ⟨.hbm, 264, rfl⟩
abbrev main_v195 : Ref sig .tc := ⟨.hbm, 265, rfl⟩
abbrev main_v196 : Ref sig .tc := ⟨.hbm, 266, rfl⟩
abbrev main_c_31 : Ref sig .tc := ⟨.hbm, 267, rfl⟩
abbrev main_v197 : Ref sig .tc := ⟨.hbm, 268, rfl⟩
abbrev main_v198 : Ref sig .tc := ⟨.hbm, 269, rfl⟩
abbrev main_c_32 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_c_33 : Ref sig .tc := ⟨.hbm, 275, rfl⟩
abbrev main_v203 : Ref sig .tc := ⟨.hbm, 276, rfl⟩
abbrev main_v204 : Ref sig .tc := ⟨.hbm, 277, rfl⟩
abbrev main_c_34 : Ref sig .tc := ⟨.hbm, 278, rfl⟩
abbrev main_v205 : Ref sig .tc := ⟨.hbm, 279, rfl⟩
abbrev main_v206 : Ref sig .tc := ⟨.hbm, 280, rfl⟩
abbrev main_c_35 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩

abbrev nD : Nat := 1
abbrev τ : Topo := Topo.v7x

variable {F : FTy → Type} [FloatOps F]
-- ==== Proof.KernelFrame.lean ====
/- The frame of the kernel: its body run at each of the two kinds of grid point (point 0, which also rotates the
   activations; every later point), and the launch. Nothing is stated here of what the kernel leaves in its outputs. -/
module

public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- the arrays' axes are long: a membership in a rectangle of them recurses deeply
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 5 rfl).trans ((hA c 5).trans (V_main_arg3 m c)),
      (Pipeline.RDat.FramePost.arr_in h c 6 rfl).trans ((hA c 6).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x4096 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1152x4096 .bf16 := Memref.whole cc0_scratch0
abbrev scM0_1 : Memref sig .tc .vmem S512x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple IN CASE A (`scf.if` 0 taken: points 0): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S16 .f32) (harg1 : arg1.IsWhole) (arg2 : Memref sig .tc .vmem S1152x4096 .bf16) (harg2 : arg2.IsWhole) (arg3 : Memref sig .tc .vmem S1x4096 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x2048 .i8) (harg6 : arg6.IsWhole) (arg7 : Memref sig .tc .vmem S512x4 .f32) (harg7 : arg7.IsWhole) (arg8 : Memref sig .tc .vmem S1152x512 .bf16) (harg8 : arg8.IsWhole) (arg9 : Memref sig .tc .vmem S1152x4096 .bf16) (harg9 : arg9.IsWhole) (arg10 : Memref sig .tc .vmem S1152x4096 .bf16) (harg10 : arg10.IsWhole) (arg11 : Memref sig .tc .vmem S512x4096 .bf16) (harg11 : arg11.IsWhole) (hc0 : cond0_0 i)
    (x0 : Vec F S16 .f32) (x1 : Vec F S1152x4096 .bf16) (x2 : Vec F S1x4096 .bf16) (x3 : Vec F S256x256 .bf16) (x4 : Vec F S256x256 .bf16) (x5 : Vec F S512x2048 .i8) (x6 : Vec F S512x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_higgs_linear i arg1 harg1 arg2 harg2 arg3 harg3 arg4 harg4 arg5 harg5 arg6 harg6 arg7 harg7 arg8 harg8 arg9 harg9 arg10 harg10 arg11 harg11) K := by
    intro E K
    simp only [cc0_higgs_linear_eq_skeleton]; unfold cc0_higgs_linear_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE B (`scf.if` 0 not taken: points 1, 2, … 27: 27 of 28): on whole staging memrefs — the inputs' at their contents,
    the FORGOTTEN outputs' (7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S16 .f32) (harg1 : arg1.IsWhole) (arg2 : Memref sig .tc .vmem S1152x4096 .bf16) (harg2 : arg2.IsWhole) (arg3 : Memref sig .tc .vmem S1x4096 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x2048 .i8) (harg6 : arg6.IsWhole) (arg7 : Memref sig .tc .vmem S512x4 .f32) (harg7 : arg7.IsWhole) (arg8 : Memref sig .tc .vmem S1152x512 .bf16) (harg8 : arg8.IsWhole) (arg9 : Memref sig .tc .vmem S1152x4096 .bf16) (harg9 : arg9.IsWhole) (arg10 : Memref sig .tc .vmem S1152x4096 .bf16) (harg10 : arg10.IsWhole) (arg11 : Memref sig .tc .vmem S512x4096 .bf16) (harg11 : arg11.IsWhole) (hc0 : ¬cond0_0 i)
    (x0 : Vec F S16 .f32) (x1 : Vec F S1152x4096 .bf16) (x2 : Vec F S1x4096 .bf16) (x3 : Vec F S256x256 .bf16) (x4 : Vec F S256x256 .bf16) (x5 : Vec F S512x2048 .i8) (x6 : Vec F S512x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_higgs_linear i arg1 harg1 arg2 harg2 arg3 harg3 arg4 harg4 arg5 harg5 arg6 harg6 arg7 harg7 arg8 harg8 arg9 harg9 arg10 harg10 arg11 harg11) K := by
    intro E K
    simp only [cc0_higgs_linear_eq_skeleton]; unfold cc0_higgs_linear_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (7, 8): nothing reads what the kernel leaves in them, so nothing
    of it is named (Lib/Pipeline/Dat.lean `Dat.toRForget`). -/
def forgets0 : Fin 9 → Bool := fun w => w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]

/-- The body leaves in window 1 its block. -/
theorem after0_1 (c : Dev nD) (t : Fin cfg0.N) : (dats m 0 c).after 1 t = iblk m c 1 t := by dsimp only [dats]

/-- The body leaves in window 2 its block. -/
theorem after0_2 (c : Dev nD) (t : Fin cfg0.N) : (dats m 0 c).after 2 t = iblk m c 2 t := by dsimp only [dats]

/-- The body leaves in window 3 its block. -/
theorem after0_3 (c : Dev nD) (t : Fin cfg0.N) : (dats m 0 c).after 3 t = iblk m c 3 t := by dsimp only [dats]

/-- The body leaves in window 4 its block. -/
theorem after0_4 (c : Dev nD) (t : Fin cfg0.N) : (dats m 0 c).after 4 t = iblk m c 4 t := by dsimp only [dats]

/-- The body leaves in window 5 its block. -/
theorem after0_5 (c : Dev nD) (t : Fin cfg0.N) : (dats m 0 c).after 5 t = iblk m c 5 t := by dsimp only [dats]

/-- The body leaves in window 6 its block. -/
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-- The body finds in window 1 its block. -/
theorem before0_1 (c : Dev nD) (t : Fin cfg0.N) (d) : (dats m 0 c).before 1 t d = iblk m c 1 t :=
  before0_1_of m (dats m 0 c) (A_eq m c 1) (after0_1 m c) t d

/-- The body finds in window 2 its block. -/
theorem before0_2 (c : Dev nD) (t : Fin cfg0.N) (d) : (dats m 0 c).before 2 t d = iblk m c 2 t :=
  before0_2_of m (dats m 0 c) (A_eq m c 2) (after0_2 m c) t d

/-- The body finds in window 3 its block. -/
theorem before0_3 (c : Dev nD) (t : Fin cfg0.N) (d) : (dats m 0 c).before 3 t d = iblk m c 3 t :=
  before0_3_of m (dats m 0 c) (A_eq m c 3) (after0_3 m c) t d

/-- The body finds in window 4 its block. -/
theorem before0_4 (c : Dev nD) (t : Fin cfg0.N) (d) : (dats m 0 c).before 4 t d = iblk m c 4 t :=
  before0_4_of m (dats m 0 c) (A_eq m c 4) (after0_4 m c) t d

/-- The body finds in window 5 its block. -/
theorem before0_5 (c : Dev nD) (t : Fin cfg0.N) (d) : (dats m 0 c).before 5 t d = iblk m c 5 t :=
  before0_5_of m (dats m 0 c) (A_eq m c 5) (after0_5 m c) t d

/-- The body finds in window 6 its block. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 28 := lt_of_lt_of_eq t.isLt (show cfg0.N = 28 from N_0)
  by_cases h0 : t.val % 28 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Block.lean ====
/- What the kernel computes on its blocks, as plain formulas over the extended reals, index by index: the rotated
   activations in the kernel's own column order (`XD`) and in the natural one (`XR`), the dequantized weight block (`W`)
   and the product of the two (`Y`). -/
module

public import proofs.«01_k».proof.Proof.Gen.KernelIdeal
public import Idealize.ShloMosaic.Lib.Pointwise

@[expose] public section

noncomputable section

namespace Cert.KernelIdeal.Hand

open Idealize.ShloMosaic Cert.KernelIdeal

/-- The constant 1/32 of the two programs, as its bit pattern denotes it. -/
def c32 : EReal := Ideal.ofBits .f32 0x3D000000#32

/-- One 256-column tile of the signed activations times the 256 × 256 Hadamard matrix: row `r`, columns `q … q + 255`,
    entry `b`. -/
def tile (x : FVec Ideal S1152x4096 .bf16) (sg : FVec Ideal S1x4096 .bf16) (h : FVec Ideal S256x256 .bf16)
    (r : Fin 1152) (q : ℕ) (hq : q + 256 ≤ 4096) (b : Fin 256) : EReal :=
  ∑ i : Fin 256, x (ix2 r ⟨q + i.val, by omega⟩) * sg (ix2 (0 : Fin 1) ⟨q + i.val, by omega⟩) * h (ix2 i b)

/-- The second factor of the rotation, across the four tiles of one group of 1024 columns, as the kernel adds them. -/
def rot (s : ℕ) (t0 t1 t2 t3 : EReal) : EReal :=
  if s = 0 then (t0 + t1) + (t2 + t3) else if s = 1 then (t0 - t1) + (t2 - t3)
  else if s = 2 then (t0 + t1) - (t2 + t3) else (t0 - t1) - (t2 - t3)

/-- The rotated activation of row `r` in the group of columns that starts at `q`, sub-block `s`, column `b` of it. -/
def rotAt (x : FVec Ideal S1152x4096 .bf16) (sg : FVec Ideal S1x4096 .bf16) (h : FVec Ideal S256x256 .bf16)
    (r : Fin 1152) (q : ℕ) (hq : q + 1024 ≤ 4096) (s : ℕ) (b : Fin 256) : EReal :=
  rot s (tile x sg h r q (by omega) b) (tile x sg h r (q + 256) (by omega) b) (tile x sg h r (q + 512) (by omega) b)
    (tile x sg h r (q + 768) (by omega) b) * c32

/-- A group of 1024 columns ends inside the 4096. -/
theorem group_le {n : ℕ} (h : n < 4096) : n / 1024 * 1024 + 1024 ≤ 4096 := by omega

/-- The rotated activations, columns in the kernel's order (in each 256 columns the even ones first). -/
def XD (x : FVec Ideal S1152x4096 .bf16) (sg : FVec Ideal S1x4096 .bf16) (h : FVec Ideal S256x256 .bf16) :
    FVec Ideal S1152x4096 .bf16 := fun y =>
  rotAt x sg h (y 0) ((y 1).val / 1024 * 1024) (group_le (y 1).isLt) ((y 1).val / 256 % 4)
    ⟨(y 1).val % 256, Nat.mod_lt _ (by omega)⟩

/-- The rotated activations, each 256 columns multiplied by the 256 × 256 matrix `p`. -/
def XR (x : FVec Ideal S1152x4096 .bf16) (sg : FVec Ideal S1x4096 .bf16) (h p : FVec Ideal S256x256 .bf16) :
    FVec Ideal S1152x4096 .bf16 := fun y =>
  ∑ c : Fin 256, rotAt x sg h (y 0) ((y 1).val / 1024 * 1024) (group_le (y 1).isLt) ((y 1).val / 256 % 4) c
    * p (ix2 c ⟨(y 1).val % 256, Nat.mod_lt _ (by omega)⟩)

/-- `XD` at an index whose coordinates are known. -/
theorem XD_at (x : FVec Ideal S1152x4096 .bf16) (sg : FVec Ideal S1x4096 .bf16) (h : FVec Ideal S256x256 .bf16)
    (y : S1152x4096.Idx) (r : Fin 1152) (q : ℕ) (hq : q + 1024 ≤ 4096) (s : ℕ) (b : Fin 256) (hr : (y 0).val = r.val)
    (hd : 1024 ∣ q) (hs : s < 4) (h1 : (y 1).val = q + 256 * s + b.val) : XD x sg h y = rotAt x sg h r q hq s b := by
  have e0 : y 0 = r := Fin.ext hr
  have e1 : (y 1).val / 1024 * 1024 = q := by omega
  have e2 : (y 1).val / 256 % 4 = s := by omega
  have e3 : (⟨(y 1).val % 256, Nat.mod_lt _ (by omega)⟩ : Fin 256) = b := Fin.ext (by show (y 1).val % 256 = _; omega)
  unfold XD
  simp only [e0, e1, e2, e3]

/-- `XR` at an index whose coordinates are known. -/
theorem XR_at (x : FVec Ideal S1152x4096 .bf16) (sg : FVec Ideal S1x4096 .bf16) (h p : FVec Ideal S256x256 .bf16)
    (y : S1152x4096.Idx) (r : Fin 1152) (q : ℕ) (hq : q + 1024 ≤ 4096) (s : ℕ) (b : Fin 256) (hr : (y 0).val = r.val)
    (hd : 1024 ∣ q) (hs : s < 4) (h1 : (y 1).val = q + 256 * s + b.val) :
    XR x sg h p y = ∑ c : Fin 256, rotAt x sg h r q hq s c * p (ix2 c b) := by
  have e0 : y 0 = r := Fin.ext hr
  have e1 : (y 1).val / 1024 * 1024 = q := by omega
  have e2 : (y 1).val / 256 % 4 = s := by omega
  have e3 : (⟨(y 1).val % 256, Nat.mod_lt _ (by omega)⟩ : Fin 256) = b := Fin.ext (by show (y 1).val % 256 = _; omega)
  unfold XR
  simp only [e0, e1, e2, e3]

/-- One level of the lookup: the bit of `q` that `b` masks chooses `u` where it is set, `v` where not. -/
def pick (q b : BitVec 16) (u v : EReal) : EReal := Scalar.select (IntOp.cmpi .ne (IntOp.andi q b) 0#16) u v

/-- The codebook entry that the low four bits of `q` name, chosen bit by bit. -/
def lut (cb : FVec Ideal S16 .f32) (q : BitVec 16) : EReal :=
  pick q 8#16
    (pick q 4#16
      (pick q 2#16 (pick q 1#16 (cb (ix1 (15 : Fin 16))) (cb (ix1 (14 : Fin 16))))
        (pick q 1#16 (cb (ix1 (13 : Fin 16))) (cb (ix1 (12 : Fin 16)))))
      (pick q 2#16 (pick q 1#16 (cb (ix1 (11 : Fin 16))) (cb (ix1 (10 : Fin 16))))
        (pick q 1#16 (cb (ix1 (9 : Fin 16))) (cb (ix1 (8 : Fin 16))))))
    (pick q 4#16
      (pick q 2#16 (pick q 1#16 (cb (ix1 (7 : Fin 16))) (cb (ix1 (6 : Fin 16))))
        (pick q 1#16 (cb (ix1 (5 : Fin 16))) (cb (ix1 (4 : Fin 16)))))
      (pick q 2#16 (pick q 1#16 (cb (ix1 (3 : Fin 16))) (cb (ix1 (2 : Fin 16))))
        (pick q 1#16 (cb (ix1 (1 : Fin 16))) (cb (ix1 (0 : Fin 16))))))

/-- A dequantized weight: the low (`hi = 0`) or the high four bits of a code byte, looked up and scaled. -/
def deq (cb : FVec Ideal S16 .f32) (hi : ℕ) (code : BitVec 8) (sc : EReal) : EReal :=
  lut cb (if hi = 0 then code.setWidth 16 else IntOp.shrsi .vector (code.setWidth 16) 4#16) * sc

/-- The dequantized weight block: row `n`; in each 256 columns first the 128 low halves of a run of code bytes, then
    their 128 high halves; one scale per row and 1024 columns. -/
def W (cb : FVec Ideal S16 .f32) (codes : IVec S512x2048 8) (sc : FVec Ideal S512x4 .f32) : FVec Ideal S512x4096 .bf16 :=
  fun y => deq cb ((y 1).val / 128 % 2)
    (codes (ix2 (y 0) ⟨(y 1).val / 256 * 128 + (y 1).val % 128, by have := (y 1).isLt; have : (y 1).val < 4096 := this; omega⟩))
    (sc (ix2 (y 0) ⟨(y 1).val / 1024, by have := (y 1).isLt; have : (y 1).val < 4096 := this; omega⟩))

/-- `W` at an index whose coordinates are known. -/
theorem W_at (cb : FVec Ideal S16 .f32) (codes : IVec S512x2048 8) (sc : FVec Ideal S512x4 .f32) (y : S512x4096.Idx)
    (n : Fin 512) (j : ℕ) (hj : j < 16) (hi : ℕ) (hhi : hi < 2) (l : Fin 128) (h0 : (y 0).val = n.val)
    (h1 : (y 1).val = 256 * j + 128 * hi + l.val) :
    W cb codes sc y = deq cb hi (codes (ix2 n ⟨128 * j + l.val, by omega⟩)) (sc (ix2 n ⟨j / 4, by omega⟩)) := by
  have e0 : y 0 = n := Fin.ext h0
  have e1 : (y 1).val / 128 % 2 = hi := by omega
  have e2 : (y 1).val / 256 * 128 + (y 1).val % 128 = 128 * j + l.val := by omega
  have e3 : (y 1).val / 1024 = j / 4 := by omega
  unfold W
  simp only [e0, e1, e2, e3]

/-- The product of the rotated activations and the transposed weight block. -/
def Y (xd : FVec Ideal S1152x4096 .bf16) (w : FVec Ideal S512x4096 .bf16) : FVec Ideal S1152x512 .bf16 := fun j =>
  ∑ k : Fin 4096, xd (ix2 (j 0) k) * w (ix2 (j 1) k)

end Cert.KernelIdeal.Hand
-- ==== Proof.Rot.lean ====
/- The loop of grid point 0: its nine trips write slabs of 128 rows, each in sixteen pieces of 256 columns. Every piece
   holds the rotated activations of its place, and the pieces of all nine trips cover the array. -/
module

public import proofs.«01_k».proof.Proof.Gen.KernelIdeal.Loops
public import proofs.«01_k».proof.Proof.Block
public import Idealize.ShloMosaic.Lib.Pointwise
public import Idealize.ShloMosaic.Lib.Pipeline.Value
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-! The offsets of the sixteen pieces of trip `k`: row `128 * k`, columns `1024 * g + 256 * s`. -/

theorem off_1 : ∀ k, k0_off1 k = ![128 * k.val, 0 + 256 * 0] := by decide +kernel
theorem off_2 : ∀ k, k0_off2 k = ![128 * k.val, 0 + 256 * 1] := by decide +kernel
theorem off_3 : ∀ k, k0_off3 k = ![128 * k.val, 0 + 256 * 2] := by decide +kernel
theorem off_4 : ∀ k, k0_off4 k = ![128 * k.val, 0 + 256 * 3] := by decide +kernel
theorem off_5 : ∀ k, k0_off5 k = ![128 * k.val, 1024 + 256 * 0] := by decide +kernel
theorem off_6 : ∀ k, k0_off6 k = ![128 * k.val, 1024 + 256 * 1] := by decide +kernel
theorem off_7 : ∀ k, k0_off7 k = ![128 * k.val, 1024 + 256 * 2] := by decide +kernel
theorem off_8 : ∀ k, k0_off8 k = ![128 * k.val, 1024 + 256 * 3] := by decide +kernel
theorem off_9 : ∀ k, k0_off9 k = ![128 * k.val, 2048 + 256 * 0] := by decide +kernel
theorem off_10 : ∀ k, k0_off10 k = ![128 * k.val, 2048 + 256 * 1] := by decide +kernel
theorem off_11 : ∀ k, k0_off11 k = ![128 * k.val, 2048 + 256 * 2] := by decide +kernel
theorem off_12 : ∀ k, k0_off12 k = ![128 * k.val, 2048 + 256 * 3] := by decide +kernel
theorem off_13 : ∀ k, k0_off13 k = ![128 * k.val, 3072 + 256 * 0] := by decide +kernel
theorem off_14 : ∀ k, k0_off14 k = ![128 * k.val, 3072 + 256 * 1] := by decide +kernel
theorem off_15 : ∀ k, k0_off15 k = ![128 * k.val, 3072 + 256 * 2] := by decide +kernel
theorem off_16 : ∀ k, k0_off16 k = ![128 * k.val, 3072 + 256 * 3] := by decide +kernel

/-- The rotation's loop runs nine times. -/
theorem trips_eq : k0_t1_loop.trips = 9 := by decide +kernel

/-- A row of one of its nine blocks of 128 is a row of the array. -/
theorem row_lt (k : Fin k0_t1_loop.trips) (a : ℕ) (ha : a < 128) : 128 * k.val + a < 1152 := by
  have := k.isLt.trans_eq trips_eq
  omega

/-- A piece that holds the rotated activations of its place agrees with `XD`. -/
theorem piece_XD (x : FVec Ideal S1152x4096 .bf16) (sg : FVec Ideal S1x4096 .bf16) (h : FVec Ideal S256x256 .bf16)
    (k : Fin k0_t1_loop.trips) (off : Fin 2 → ℕ) (q s : ℕ) (ho : off = ![128 * k.val, q + 256 * s])
    (hq : q + 1024 ≤ 4096) (hd : 1024 ∣ q) (hs : s < 4) (inb)
    (y : (Rect.unit (s := S1152x4096) off ![128, 256] inb).shape.Idx) (v : Elt Ideal .bf16)
    (hv : v = rotAt x sg h ⟨128 * k.val + (y 0).val, row_lt k _ (y 0).isLt⟩ q hq s (y 1)) :
    v = XD x sg h ((Rect.unit (s := S1152x4096) off ![128, 256] inb).emb y) := by
  subst ho
  rw [hv, XD_at x sg h _ ⟨128 * k.val + (y 0).val, row_lt k _ (y 0).isLt⟩ q hq s (y 1) _ hd hs _]
  · show 128 * k.val + 1 * (y 0).val = 128 * k.val + (y 0).val
    omega
  · show q + 256 * s + 1 * (y 1).val = q + 256 * s + (y 1).val
    omega

/-- A piece that holds the rotated activations of its place times `p` agrees with `XR`. -/
theorem piece_XR (x : FVec Ideal S1152x4096 .bf16) (sg : FVec Ideal S1x4096 .bf16) (h p : FVec Ideal S256x256 .bf16)
    (k : Fin k0_t1_loop.trips) (off : Fin 2 → ℕ) (q s : ℕ) (ho : off = ![128 * k.val, q + 256 * s])
    (hq : q + 1024 ≤ 4096) (hd : 1024 ∣ q) (hs : s < 4) (inb)
    (y : (Rect.unit (s := S1152x4096) off ![128, 256] inb).shape.Idx) (v : Elt Ideal .bf16)
    (hv : v = ∑ c : Fin 256, rotAt x sg h ⟨128 * k.val + (y 0).val, row_lt k _ (y 0).isLt⟩ q hq s c * p (ix2 c (y 1))) :
    v = XR x sg h p ((Rect.unit (s := S1152x4096) off ![128, 256] inb).emb y) := by
  subst ho
  rw [hv, XR_at x sg h p _ ⟨128 * k.val + (y 0).val, row_lt k _ (y 0).isLt⟩ q hq s (y 1) _ hd hs _]
  · show 128 * k.val + 1 * (y 0).val = 128 * k.val + (y 0).val
    omega
  · show q + 256 * s + 1 * (y 1).val = q + 256 * s + (y 1).val
    omega

/-- A place lies in a piece when its row is one of the piece's 128 and its column one of the piece's 256. -/
theorem mem_piece (off : Fin 2 → ℕ) (inb) (y : S1152x4096.Idx) :
    y ∈ (Rect.unit (s := S1152x4096) off ![128, 256] inb).set ↔
      (off 0 ≤ (y 0).val ∧ (y 0).val < off 0 + 128) ∧ off 1 ≤ (y 1).val ∧ (y 1).val < off 1 + 256 := by
  rw [Rect.mem_set_unit]
  exact Fin.forall_fin_two

section
variable (𝒱 : Variants) (c : Dev nD) (bd : Option 𝒱.V) (i : grid0.Coords) (arg1 : Memref sig .tc .smem S16 .f32) (harg1 :
  arg1.IsWhole) (arg2 : Memref sig .tc .vmem S1152x4096 .bf16) (harg2 : arg2.IsWhole) (arg3 : Memref sig .tc .vmem
  S1x4096 .bf16) (harg3 : arg3.IsWhole) (arg4 : Memref sig .tc .vmem S256x256 .bf16) (harg4 : arg4.IsWhole) (arg5 :
  Memref sig .tc .vmem S256x256 .bf16) (harg5 : arg5.IsWhole) (arg6 : Memref sig .tc .vmem S512x2048 .i8) (harg6 :
  arg6.IsWhole) (arg7 : Memref sig .tc .vmem S512x4 .f32) (harg7 : arg7.IsWhole) (arg8 : Memref sig .tc .vmem
  S1152x512 .bf16) (harg8 : arg8.IsWhole) (arg9 : Memref sig .tc .vmem S1152x4096 .bf16) (harg9 : arg9.IsWhole) (arg10
  : Memref sig .tc .vmem S1152x4096 .bf16) (harg10 : arg10.IsWhole) (arg11 : Memref sig .tc .vmem S512x4096 .bf16)
  (harg11 : arg11.IsWhole) (k0_h1 : k0_cond1 i = 1#1) (x : FVec Ideal S1152x4096 .bf16) (sg : FVec Ideal S1x4096
  .bf16) (h p : FVec Ideal S256x256 .bf16)

/-- Each of the sixteen pieces that trip `k` stores in the scratch array agrees with `XD`. -/
theorem trip_XD (k : Fin k0_t1_loop.trips) :
    ∀ pc ∈ (tripL_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k).2,
      ∀ y, pc.2 y = XD x sg h (pc.1.emb y) := by
  unfold tripL_k0_t1 trip_k0_t1
  dsimp only
  sl_unfold_run_names
  simp only [List.forall_mem_cons, List.not_mem_nil, false_implies, implies_true, and_true]
  refine ⟨fun y => piece_XD x sg h k _ _ _ (off_16 k) (by norm_num) (by norm_num) (by norm_num) _ y _ ?_,
    fun y => piece_XD x sg h k _ _ _ (off_15 k) (by norm_num) (by norm_num) (by norm_num) _ y _ ?_,
    fun y => piece_XD x sg h k _ _ _ (off_14 k) (by norm_num) (by norm_num) (by norm_num) _ y _ ?_,
    fun y => piece_XD x sg h k _ _ _ (off_13 k) (by norm_num) (by norm_num) (by norm_num) _ y _ ?_,
    fun y => piece_XD x sg h k _ _ _ (off_12 k) (by norm_num) (by norm_num) (by norm_num) _ y _ ?_,
    fun y => piece_XD x sg h k _ _ _ (off_11 k) (by norm_num) (by norm_num) (by norm_num) _ y _ ?_,
    fun y => piece_XD x sg h k _ _ _ (off_10 k) (by norm_num) (by norm_num) (by norm_num) _ y _ ?_,
    fun y => piece_XD x sg h k _ _ _ (off_9 k) (by norm_num) (by norm_num) (by norm_num) _ y _ ?_,
    fun y => piece_XD x sg h k _ _ _ (off_8 k) (by norm_num) (by norm_num) (by norm_num) _ y _ ?_,
    fun y => piece_XD x sg h k _ _ _ (off_7 k) (by norm_num) (by norm_num) (by norm_num) _ y _ ?_,
    fun y => piece_XD x sg h k _ _ _ (off_6 k) (by norm_num) (by norm_num) (by norm_num) _ y _ ?_,
    fun y => piece_XD x sg h k _ _ _ (off_5 k) (by norm_num) (by norm_num) (by norm_num) _ y _ ?_,
    fun y => piece_XD x sg h k _ _ _ (off_4 k) (by norm_num) (by norm_num) (by norm_num) _ y _ ?_,
    fun y => piece_XD x sg h k _ _ _ (off_3 k) (by norm_num) (by norm_num) (by norm_num) _ y _ ?_,
    fun y => piece_XD x sg h k _ _ _ (off_2 k) (by norm_num) (by norm_num) (by norm_num) _ y _ ?_,
    fun y => piece_XD x sg h k _ _ _ (off_1 k) (by norm_num) (by norm_num) (by norm_num) _ y _ ?_⟩
  all_goals
    pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90,
      k0_pay91, k0_pay92, k0_pay93, k0_pay94,
      Memref.IsWhole.readAt_unread]
    simp only [off_1, off_2, off_3, off_4, off_5, off_6, off_7, off_8, off_9, off_10, off_11, off_12, off_13, off_14, off_15,
      off_16,
      Matrix.cons_val_zero, Matrix.cons_val_one, rotAt, rot, tile, c32, Nat.mul_zero, Nat.mul_one, Nat.reduceMul,
      Nat.reduceAdd, Nat.reduceEqDiff, Nat.zero_add, Nat.add_zero, zero_add, add_zero, one_ne_zero, ↓reduceIte]

/-- Each of the sixteen pieces that trip `k` stores in the second output agrees with `XR`. -/
theorem trip_XR (k : Fin k0_t1_loop.trips) :
    ∀ pc ∈ (tripL_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k).1,
      ∀ y, pc.2 y = XR x sg h p (pc.1.emb y) := by
  unfold tripL_k0_t1 trip_k0_t1
  dsimp only
  sl_unfold_run_names
  simp only [List.forall_mem_cons, List.not_mem_nil, false_implies, implies_true, and_true]
  refine ⟨fun y => piece_XR x sg h p k _ _ _ (off_16 k) (by norm_num) (by norm_num) (by norm_num) _ y _ ?_,
    fun y => piece_XR x sg h p k _ _ _ (off_15 k) (by norm_num) (by norm_num) (by norm_num) _ y _ ?_,
    fun y => piece_XR x sg h p k _ _ _ (off_14 k) (by norm_num) (by norm_num) (by norm_num) _ y _ ?_,
    fun y => piece_XR x sg h p k _ _ _ (off_13 k) (by norm_num) (by norm_num) (by norm_num) _ y _ ?_,
    fun y => piece_XR x sg h p k _ _ _ (off_12 k) (by norm_num) (by norm_num) (by norm_num) _ y _ ?_,
    fun y => piece_XR x sg h p k _ _ _ (off_11 k) (by norm_num) (by norm_num) (by norm_num) _ y _ ?_,
    fun y => piece_XR x sg h p k _ _ _ (off_10 k) (by norm_num) (by norm_num) (by norm_num) _ y _ ?_,
    fun y => piece_XR x sg h p k _ _ _ (off_9 k) (by norm_num) (by norm_num) (by norm_num) _ y _ ?_,
    fun y => piece_XR x sg h p k _ _ _ (off_8 k) (by norm_num) (by norm_num) (by norm_num) _ y _ ?_,
    fun y => piece_XR x sg h p k _ _ _ (off_7 k) (by norm_num) (by norm_num) (by norm_num) _ y _ ?_,
    fun y => piece_XR x sg h p k _ _ _ (off_6 k) (by norm_num) (by norm_num) (by norm_num) _ y _ ?_,
    fun y => piece_XR x sg h p k _ _ _ (off_5 k) (by norm_num) (by norm_num) (by norm_num) _ y _ ?_,
    fun y => piece_XR x sg h p k _ _ _ (off_4 k) (by norm_num) (by norm_num) (by norm_num) _ y _ ?_,
    fun y => piece_XR x sg h p k _ _ _ (off_3 k) (by norm_num) (by norm_num) (by norm_num) _ y _ ?_,
    fun y => piece_XR x sg h p k _ _ _ (off_2 k) (by norm_num) (by norm_num) (by norm_num) _ y _ ?_,
    fun y => piece_XR x sg h p k _ _ _ (off_1 k) (by norm_num) (by norm_num) (by norm_num) _ y _ ?_⟩
  all_goals
    pointwise [k0_pay2, k0_pay3, k0_pay4, k0_pay5, k0_pay6, k0_pay7, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34, k0_pay35,
      k0_pay36, k0_pay37, k0_pay38, k0_pay39, k0_pay40, k0_pay41, k0_pay42, k0_pay43, k0_pay44, k0_pay45, k0_pay46,
      k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87, k0_pay88, k0_pay89, k0_pay90,
      k0_pay91, k0_pay92, k0_pay93, k0_pay94,
      Memref.IsWhole.readAt_unread]
    simp only [off_1, off_2, off_3, off_4, off_5, off_6, off_7, off_8, off_9, off_10, off_11, off_12, off_13, off_14, off_15,
      off_16,
      Matrix.cons_val_zero, Matrix.cons_val_one, rotAt, rot, tile, c32, Nat.mul_zero, Nat.mul_one, Nat.reduceMul,
      Nat.reduceAdd, Nat.reduceEqDiff, Nat.zero_add, Nat.add_zero, zero_add, add_zero, one_ne_zero, ↓reduceIte]

/-- The pieces of trip `k` cover its 128 rows: those of the second output and those of the scratch array. -/
theorem trip_cover (k : Fin k0_t1_loop.trips) (y : S1152x4096.Idx) (h0 : 128 * k.val ≤ (y 0).val)
    (h1 : (y 0).val < 128 * (k.val + 1)) :
    (∃ pc ∈ (tripL_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k).1, y ∈ pc.1.set) ∧
    (∃ pc ∈ (tripL_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k).2, y ∈ pc.1.set) := by
  have hy : (y 1).val < 4096 := (y 1).isLt
  unfold tripL_k0_t1 trip_k0_t1
  dsimp only
  sl_unfold_run_names
  simp only [List.mem_cons, exists_eq_or_imp, exists_eq_left, List.not_mem_nil, false_and, exists_false, or_false, mem_piece,
    off_1, off_2, off_3, off_4, off_5, off_6, off_7, off_8, off_9, off_10, off_11, off_12, off_13, off_14, off_15,
      off_16,
    Matrix.cons_val_zero, Matrix.cons_val_one]
  omega

/-- The pieces of the trips before `n`: they agree with `XR` and `XD`, and cover the first `128 * n` rows. -/
theorem trips_values : ∀ n : ℕ, n ≤ k0_t1_loop.trips →
    ((∀ pc ∈ (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) n).1,
        ∀ y, pc.2 y = XR x sg h p (pc.1.emb y)) ∧
      (∀ pc ∈ (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) n).2,
        ∀ y, pc.2 y = XD x sg h (pc.1.emb y))) ∧
    ∀ y : S1152x4096.Idx, (y 0).val < 128 * n →
      (∃ pc ∈ (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) n).1, y ∈ pc.1.set) ∧
      (∃ pc ∈ (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) n).2, y ∈ pc.1.set)
  | 0, _ => by
    refine ⟨⟨fun pc hp => ?_, fun pc hp => ?_⟩, fun y hy => absurd hy (by omega)⟩
    · exact absurd hp List.not_mem_nil
    · exact absurd hp List.not_mem_nil
  | n + 1, hn => by
    obtain ⟨⟨i1, i2⟩, i3⟩ := trips_values n (by omega)
    have e := pb_k0_t1_succ (F := Ideal) 𝒱 c bd i arg1 harg1 arg2 harg2 arg3 harg3 arg4 harg4 arg5 harg5 arg6 harg6 arg7 harg7 arg8 harg8 arg9 harg9
      arg10 harg10 arg11 harg11 k0_h1 (harg2.unread x) (harg3.unread sg) (harg4.unread h) (harg5.unread p) ⟨n, by omega⟩
    dsimp only at e
    rw [e]
    refine ⟨⟨fun pc hp => ?_, fun pc hp => ?_⟩, fun y hy => ?_⟩
    · rcases List.mem_append.1 hp with hp | hp
      · exact trip_XR 𝒱 c bd i arg1 harg1 arg2 harg2 arg3 harg3 arg4 harg4 arg5 harg5 arg6 harg6 arg7 harg7 arg8 harg8 arg9 harg9
          arg10 harg10 arg11 harg11 k0_h1 x sg h p _ pc hp
      · exact i1 pc hp
    · rcases List.mem_append.1 hp with hp | hp
      · exact trip_XD 𝒱 c bd i arg1 harg1 arg2 harg2 arg3 harg3 arg4 harg4 arg5 harg5 arg6 harg6 arg7 harg7 arg8 harg8 arg9 harg9
          arg10 harg10 arg11 harg11 k0_h1 x sg h p _ pc hp
      · exact i2 pc hp
    · by_cases hlt : (y 0).val < 128 * n
      · obtain ⟨⟨a, ha, ha'⟩, b, hb, hb'⟩ := i3 y hlt
        exact ⟨⟨a, List.mem_append_right _ ha, ha'⟩, b, List.mem_append_right _ hb, hb'⟩
      · obtain ⟨⟨a, ha, ha'⟩, b, hb, hb'⟩ := trip_cover 𝒱 c bd i arg1 harg1 arg2 harg2 arg3 harg3 arg4 harg4 arg5 harg5 arg6 harg6 arg7 harg7 arg8 harg8 arg9 harg9
          arg10 harg10 arg11 harg11 k0_h1 x sg h p
          ⟨n, by omega⟩ y (by show 128 * n ≤ _; omega) hy
        exact ⟨⟨a, List.mem_append_left _ ha, ha'⟩, b, List.mem_append_left _ hb, hb'⟩

/-- What the nine trips leave in the second output, whatever it held before. -/
theorem loop_XR (G : BufTy.Contents (Elt Ideal) arg9.view.ty) :
    arg9.view.read (Elt Ideal) (arg9.view.writes (Elt Ideal) G
      (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k0_t1_loop.trips).1) = XR x sg h p := by
  obtain ⟨⟨i1, -⟩, i3⟩ := trips_values 𝒱 c bd i arg1 harg1 arg2 harg2 arg3 harg3 arg4 harg4 arg5 harg5 arg6 harg6 arg7 harg7 arg8 harg8 arg9 harg9
      arg10 harg10 arg11 harg11 k0_h1 x sg h p _ le_rfl
  funext y
  exact View.read_writes_apply_of_pieces _ _ _ _ i1 y (i3 y (by rw [trips_eq]; exact (y 0).isLt)).1

/-- What the nine trips leave in the scratch array, whatever it held before. -/
theorem loop_XD (G : BufTy.Contents (Elt Ideal) arg10.view.ty) :
    arg10.view.read (Elt Ideal) (arg10.view.writes (Elt Ideal) G
      (pb_k0_t1 (F := Ideal) 𝒱 c bd i arg1 harg1 arg2 harg2 arg3 harg3 arg4 harg4 arg5 harg5 arg6 harg6 arg7 harg7
      arg8 harg8 arg9 harg9 arg10 harg10 arg11 harg11 k0_h1 (harg2.unread x) (harg3.unread sg) (harg4.unread h)
      (harg5.unread p) k0_t1_loop.trips).2) = XD x sg h := by
  obtain ⟨⟨-, i2⟩, i3⟩ := trips_values 𝒱 c bd i arg1 harg1 arg2 harg2 arg3 harg3 arg4 harg4 arg5 harg5 arg6 harg6 arg7 harg7 arg8 harg8 arg9 harg9
      arg10 harg10 arg11 harg11 k0_h1 x sg h p _ le_rfl
  funext y
  exact View.read_writes_apply_of_pieces _ _ _ _ i2 y (i3 y (by rw [trips_eq]; exact (y 0).isLt)).2
end

end Cert.KernelIdeal.Hand
-- ==== Proof.Stores.lean ====
/- The steps that read the kernel's stores back: every store of dequantized weights holds the entries of `W` of its
   place, a scratch array covered by such stores reads back as `W`, and the last store of a point is the product `Y`. -/
module

public import proofs.«01_k».proof.Proof.Gen.KernelIdeal.Skeleton
public import proofs.«01_k».proof.Proof.Block
public import Idealize.ShloMosaic.Lib.Pointwise
public import Idealize.ShloMosaic.Lib.Pipeline.Value
public import Idealize.ShloMosaic.Lib.WholeRead
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- A store of 128 columns from column `q` on agrees with `W` when it holds the dequantized weights of its place. -/
theorem piece_W (cb : FVec Ideal S16 .f32) (codes : IVec S512x2048 8) (sc : FVec Ideal S512x4 .f32) (q : ℕ)
    (hq : q + 128 ≤ 4096) (hd : 128 ∣ q) (inb) (y : (Rect.unit (s := S512x4096) ![0, q] ![512, 128] inb).shape.Idx)
    (v : Elt Ideal .bf16)
    (hv : v = deq cb (q / 128 % 2)
      (codes (ix2 (n0 := 512) (n1 := 2048) (y 0) ⟨128 * (q / 256) + (y 1).val, by have : (y 1).val < 128 := (y 1).isLt; omega⟩))
      (sc (ix2 (n0 := 512) (n1 := 4) (y 0) ⟨q / 1024, by omega⟩))) :
    v = W cb codes sc ((Rect.unit (s := S512x4096) ![0, q] ![512, 128] inb).emb y) := by
  have hl : (y 1).val < 128 := (y 1).isLt
  rw [hv, W_at cb codes sc _ (y 0) (q / 256) (by omega) (q / 128 % 2) (by omega) (y 1) _ _]
  · have e : q / 256 / 4 = q / 1024 := by omega
    simp only [e]
  · show 0 + 1 * (y 0).val = (y 0).val
    omega
  · show q + 1 * (y 1).val = 256 * (q / 256) + 128 * (q / 128 % 2) + (y 1).val
    omega

/-- A place lies in a store of 128 columns when its column is one of them. -/
theorem mem_W (q : ℕ) (inb) (y : S512x4096.Idx) :
    y ∈ (Rect.unit (s := S512x4096) ![0, q] ![512, 128] inb).set ↔ q ≤ (y 1).val ∧ (y 1).val < q + 128 := by
  have h0 : (y 0).val < 512 := (y 0).isLt
  rw [Rect.mem_set_unit]
  refine Fin.forall_fin_two.trans ⟨fun h => h.2, fun h => ⟨?_, h⟩⟩
  exact ⟨Nat.zero_le _, by show (y 0).val < 0 + 512; omega⟩

/-- An array covered by stores that agree with `w` reads back whole as `w`. -/
theorem load_W (v : View sig .tc .vmem S512x4096 .bf16) (L : List (View.Piece (Elt Ideal) S512x4096 .bf16)) (inb)
    (w : FVec Ideal S512x4096 .bf16) (hw : ∀ p ∈ L, ∀ y, p.2 y = w (p.1.emb y)) (hc : ∀ y, ∃ p ∈ L, y ∈ p.1.set) :
    v.readCov L (Rect.unit (s := S512x4096) ![0, 0] S512x4096.size inb).toLoadRect = w := by
  rw [View.readCov_eq_canon_ld _ _ _ hc]
  funext y
  rw [View.ld_apply, View.canon_apply_of_pieces w L hw _ (hc _)]
  congr 1
  funext a
  apply Fin.ext
  match a with
  | 0 => show 0 + 1 * (y 0).val = (y 0).val; omega
  | 1 => show 0 + 1 * (y 1).val = (y 1).val; omega

/-- The last store of a point leaves the product in the first output. -/
theorem store_Y (v : View sig .tc .vmem S1152x512 .bf16) (f : BufTy.Contents (Elt Ideal) v.ty) (inb)
    (A xd : FVec Ideal S1152x4096 .bf16) (B w : FVec Ideal S512x4096 .bf16) (hA : A = xd) (hB : B = w) :
    v.read (Elt Ideal) (v.writes (Elt Ideal) f
      [(⟨Rect.unit (s := S1152x512) ![0, 0] S1152x512.size inb, k0_pay1 (F := Ideal) A B⟩ :
        View.Piece (Elt Ideal) S1152x512 .bf16)]) = Y xd w := by
  subst hA hB
  funext y
  refine View.read_writes_apply_of_pieces _ _ _ _ ?_ y ?_
  · intro p hp x
    obtain rfl := List.mem_singleton.1 hp
    have e : (Rect.unit (s := S1152x512) ![0, 0] S1152x512.size inb).emb x = x := by
      funext a
      apply Fin.ext
      match a with
      | 0 => show 0 + 1 * (x 0).val = (x 0).val; omega
      | 1 => show 0 + 1 * (x 1).val = (x 1).val; omega
    show k0_pay1 A B x = Y A B ((Rect.unit (s := S1152x512) ![0, 0] S1152x512.size inb).emb x)
    rw [e]
    pointwise [k0_pay1, Y]
  · refine ⟨_, List.mem_singleton_self _, ?_⟩
    rw [Rect.mem_set_unit]
    intro a
    match a with
    | 0 => exact ⟨Nat.zero_le _, by have : (y 0).val < 1152 := (y 0).isLt; show (y 0).val < 0 + 1152; omega⟩
    | 1 => exact ⟨Nat.zero_le _, by have : (y 1).val < 512 := (y 1).isLt; show (y 1).val < 0 + 512; omega⟩

/-- A load of a whole array held at given contents reads them. -/
theorem load_whole (v : Memref sig .tc .vmem S1152x4096 .bf16) (hv : v.IsWhole) (inb) (xd : FVec Ideal S1152x4096 .bf16)
    (f : BufTy.Contents (Elt Ideal) v.view.ty) (hf : v.view.read (Elt Ideal) f = xd) :
    v.view.readAt (Elt Ideal) (Rect.unit (s := S1152x4096) ![0, 0] S1152x4096.size inb).toLoadRect f = xd := by
  subst hf
  rw [View.readAt_eq_ld]
  exact View.ld_unit_lit inb _ (by intro a; match a with | 0 => rfl | 1 => rfl)

end Cert.KernelIdeal.Hand
-- ==== Proof.Run.lean ====
/- The kernel's body run at each of the two kinds of grid point, with what it leaves: point 0 rotates the activations,
   and every point multiplies them by its block of dequantized weights. -/
module

public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Rot
public import proofs.«01_k».proof.Proof.Stores

@[expose] public section

-- the arrays' axes are long: a membership in a rectangle of them recurses deeply
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1152x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1152x4096 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1152x4096 .bf16 := Memref.whole cc0_scratch0
abbrev scM0_1 : Memref sig .tc .vmem S512x4096 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body at point 0: on whole staging memrefs with the inputs at their contents and the outputs and the scratch
    arrays at anything, it leaves the product in the first output, the rotated activations in the second output and in
    the first scratch array, and the inputs as they were. -/
theorem kernelRun0_A (c : Dev nD) (i : grid0.Coords) (arg1 : Memref sig .tc .smem S16 .f32) (harg1 : arg1.IsWhole) (arg2 : Memref sig .tc .vmem S1152x4096 .bf16) (harg2 : arg2.IsWhole) (arg3 : Memref sig .tc .vmem S1x4096 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x2048 .i8) (harg6 : arg6.IsWhole) (arg7 : Memref sig .tc .vmem S512x4 .f32) (harg7 : arg7.IsWhole) (arg8 : Memref sig .tc .vmem S1152x512 .bf16) (harg8 : arg8.IsWhole) (arg9 : Memref sig .tc .vmem S1152x4096 .bf16) (harg9 : arg9.IsWhole) (arg10 : Memref sig .tc .vmem S1152x4096 .bf16) (harg10 : arg10.IsWhole) (arg11 : Memref sig .tc .vmem S512x4096 .bf16) (harg11 : arg11.IsWhole) (hc0 : cond0_0 i)
    (x0 : Vec Ideal S16 .f32) (x1 : Vec Ideal S1152x4096 .bf16) (x2 : Vec Ideal S1x4096 .bf16) (x3 : Vec Ideal S256x256 .bf16) (x4 : Vec Ideal S256x256 .bf16) (x5 : Vec Ideal S512x2048 .i8) (x6 : Vec Ideal S512x4 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (Y (XD x1 x2 x3) (W x0 x5 x6)) ∗ owns (c : Thread nD τ) arg9 fullShare (XR x1 x2 x3 x4) ∗ owns (c : Thread nD τ) arg10 fullShare (XD x1 x2 x3) ∗ (∃ d, owns (c : Thread nD τ) arg11 fullShare d)) -∗ K ⟨⟩))
          ⊢ wp frame (wpE (defs₀ (F := Ideal)) Variants.none c none) E (cc0_higgs_linear i arg1 harg1 arg2 harg2 arg3 harg3 arg4 harg4 arg5 harg5 arg6 harg6 arg7 harg7 arg8 harg8 arg9 harg9 arg10 harg10 arg11 harg11) K := by
    intro E K
    simp only [cc0_higgs_linear_eq_skeleton]; unfold cc0_higgs_linear_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      sl_unfold_run_names
      refine store_Y _ _ _ _ _ _ _ (load_whole _ harg10 _ _ _ (loop_XD Variants.none c none i arg1 harg1 arg2 harg2 arg3 harg3 arg4 harg4 arg5 harg5 arg6 harg6 arg7 harg7 arg8 harg8 arg9 harg9 arg10 harg10 arg11 harg11 hc0 x1 x2 x3 x4 _))
        (load_W _ _ _ _ ?_ ?_)
      · simp only [List.forall_mem_cons, List.not_mem_nil, false_implies, implies_true, _root_.and_true]
        repeat' refine And.intro ?_ ?_
        all_goals
          intro y
          refine piece_W x0 x5 x6 _ (by norm_num) (by norm_num) _ y _ ?_
          pointwise [k0_pay95, k0_pay96, k0_pay97, k0_pay98, k0_pay99, k0_pay100, k0_pay101, k0_pay102, k0_pay103, k0_pay104,
            k0_pay105, k0_pay106, k0_pay107, k0_pay108, k0_pay109, k0_pay110, k0_pay111, k0_pay112, k0_pay113,
            k0_pay114, k0_pay115, k0_pay116, k0_pay117, k0_pay118, k0_pay119, k0_pay120, k0_pay121, k0_pay122,
            k0_pay123, k0_pay124, k0_pay125, k0_pay126, k0_pay127, k0_pay128, k0_pay129, k0_pay130, k0_pay131,
            k0_pay132, k0_pay133, k0_pay134, k0_pay135, k0_pay136, k0_pay137, k0_pay138, k0_pay139, k0_pay140,
            k0_pay141, k0_pay142, k0_pay143, k0_pay144, k0_pay145, k0_pay146, k0_pay147, k0_pay148, k0_pay149,
            k0_pay150, k0_pay151, k0_pay152, k0_pay153, k0_pay154, k0_pay155, k0_pay156, k0_pay157, k0_pay158,
            k0_pay159, k0_pay160, k0_pay161, k0_pay162, k0_pay163, k0_pay164, k0_pay165, k0_pay166, k0_pay167,
            k0_pay168, k0_pay169, k0_pay170, k0_pay171, k0_pay172, k0_pay173, k0_pay174, k0_pay175, k0_pay176,
            k0_pay177, k0_pay178, k0_pay179, k0_pay180, k0_pay181, k0_pay182, k0_pay183, k0_pay184, k0_pay185,
            k0_pay186, k0_pay187, k0_pay188, k0_pay189, k0_pay190, k0_pay191, k0_pay192, k0_pay193, k0_pay194,
            k0_pay195, k0_pay196, k0_pay197, k0_pay198, k0_pay199, k0_pay200, k0_pay201, k0_pay202, k0_pay203,
            k0_pay204, k0_pay205, k0_pay206, k0_pay207, k0_pay208, k0_pay209, k0_pay210, k0_pay211, k0_pay212,
            k0_pay213, k0_pay214, k0_pay215, k0_pay216, k0_pay217, k0_pay218, k0_pay219, k0_pay220, k0_pay221,
            k0_pay222, k0_pay223, k0_pay224, k0_pay225, k0_pay226, k0_pay227, k0_pay228, k0_pay229, k0_pay230,
            k0_pay231, k0_pay232, k0_pay233, k0_pay234, k0_pay235, k0_pay236, k0_pay237, k0_pay238, k0_pay239,
            k0_pay240, k0_pay241, k0_pay242, k0_pay243, k0_pay244, k0_pay245, k0_pay246, k0_pay247, k0_pay248,
            k0_pay249, k0_pay250, k0_pay251, k0_pay252, k0_pay253, k0_pay254, k0_pay255, k0_pay256, k0_pay257,
            k0_pay258, k0_pay259, k0_pay260, k0_pay261, k0_pay262, k0_pay263, k0_pay264, k0_pay265, k0_pay266,
            k0_pay267, k0_pay268, k0_pay269, k0_pay270, k0_pay271, k0_pay272, k0_pay273, k0_pay274, k0_pay275,
            k0_pay276, k0_pay277, k0_pay278, k0_pay279, k0_pay280, k0_pay281, k0_pay282, k0_pay283, k0_pay284,
            k0_pay285, k0_pay286, k0_pay287, k0_pay288, k0_pay289, k0_pay290, k0_pay291, k0_pay292, k0_pay293,
            k0_pay294, k0_pay295,
            Memref.IsWhole.readAt_unread, deq, lut, pick]
      · intro y
        have hy : (y 1).val < 4096 := (y 1).isLt
        simp only [List.mem_cons, exists_eq_or_imp, exists_eq_left, List.not_mem_nil, _root_.false_and, exists_false,
          _root_.or_false, mem_W]
        omega

    isplitl [H8]
    · iexists _; isplitr; swap; · iexact H8
      ipureintro
      exact loop_XR Variants.none c none i arg1 harg1 arg2 harg2 arg3 harg3 arg4 harg4 arg5 harg5 arg6 harg6 arg7 harg7 arg8 harg8 arg9 harg9 arg10 harg10 arg11 harg11 hc0 x1 x2 x3 x4 _

    isplitl [HS0]
    · iexists _; isplitr; swap; · iexact HS0
      ipureintro
      exact loop_XD Variants.none c none i arg1 harg1 arg2 harg2 arg3 harg3 arg4 harg4 arg5 harg5 arg6 harg6 arg7 harg7 arg8 harg8 arg9 harg9 arg10 harg10 arg11 harg11 hc0 x1 x2 x3 x4 _

    iexists _, _; isplitr; swap; · iexact HS1
    ipureintro; rfl

-- (the run's proof term is large: checking it walks past the default budget)
set_option maxHeartbeats 1000000 in
/-- The body at a later point: the first scratch array holds `xd` and the second output `xr`, and both keep them; the
    product of `xd` with this point's weight block is left in the first output. -/
theorem kernelRun0_B (c : Dev nD) (i : grid0.Coords) (arg1 : Memref sig .tc .smem S16 .f32) (harg1 : arg1.IsWhole) (arg2 : Memref sig .tc .vmem S1152x4096 .bf16) (harg2 : arg2.IsWhole) (arg3 : Memref sig .tc .vmem S1x4096 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S512x2048 .i8) (harg6 : arg6.IsWhole) (arg7 : Memref sig .tc .vmem S512x4 .f32) (harg7 : arg7.IsWhole) (arg8 : Memref sig .tc .vmem S1152x512 .bf16) (harg8 : arg8.IsWhole) (arg9 : Memref sig .tc .vmem S1152x4096 .bf16) (harg9 : arg9.IsWhole) (arg10 : Memref sig .tc .vmem S1152x4096 .bf16) (harg10 : arg10.IsWhole) (arg11 : Memref sig .tc .vmem S512x4096 .bf16) (harg11 : arg11.IsWhole) (hc0 : ¬cond0_0 i)
    (x0 : Vec Ideal S16 .f32) (x1 : Vec Ideal S1152x4096 .bf16) (x2 : Vec Ideal S1x4096 .bf16) (x3 : Vec Ideal S256x256 .bf16) (x4 : Vec Ideal S256x256 .bf16) (x5 : Vec Ideal S512x2048 .i8) (x6 : Vec Ideal S512x4 .f32)
    (xd xr : Vec Ideal S1152x4096 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xr ∗ owns (c : Thread nD τ) arg10 fullShare xd ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (Y xd (W x0 x5 x6)) ∗ owns (c : Thread nD τ) arg9 fullShare xr ∗ owns (c : Thread nD τ) arg10 fullShare xd ∗ (∃ d, owns (c : Thread nD τ) arg11 fullShare d)) -∗ K ⟨⟩))
          ⊢ wp frame (wpE (defs₀ (F := Ideal)) Variants.none c none) E (cc0_higgs_linear i arg1 harg1 arg2 harg2 arg3 harg3 arg4 harg4 arg5 harg5 arg6 harg6 arg7 harg7 arg8 harg8 arg9 harg9 arg10 harg10 arg11 harg11) K := by
    intro E K
    simp only [cc0_higgs_linear_eq_skeleton]; unfold cc0_higgs_linear_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      sl_unfold_run_names
      refine store_Y _ _ _ _ _ _ _ (load_whole _ harg10 _ _ _ (harg10.read_unread _))
        (load_W _ _ _ _ ?_ ?_)
      · simp only [List.forall_mem_cons, List.not_mem_nil, false_implies, implies_true, _root_.and_true]
        repeat' refine And.intro ?_ ?_
        all_goals
          intro y
          refine piece_W x0 x5 x6 _ (by norm_num) (by norm_num) _ y _ ?_
          pointwise [k0_pay95, k0_pay96, k0_pay97, k0_pay98, k0_pay99, k0_pay100, k0_pay101, k0_pay102, k0_pay103, k0_pay104,
            k0_pay105, k0_pay106, k0_pay107, k0_pay108, k0_pay109, k0_pay110, k0_pay111, k0_pay112, k0_pay113,
            k0_pay114, k0_pay115, k0_pay116, k0_pay117, k0_pay118, k0_pay119, k0_pay120, k0_pay121, k0_pay122,
            k0_pay123, k0_pay124, k0_pay125, k0_pay126, k0_pay127, k0_pay128, k0_pay129, k0_pay130, k0_pay131,
            k0_pay132, k0_pay133, k0_pay134, k0_pay135, k0_pay136, k0_pay137, k0_pay138, k0_pay139, k0_pay140,
            k0_pay141, k0_pay142, k0_pay143, k0_pay144, k0_pay145, k0_pay146, k0_pay147, k0_pay148, k0_pay149,
            k0_pay150, k0_pay151, k0_pay152, k0_pay153, k0_pay154, k0_pay155, k0_pay156, k0_pay157, k0_pay158,
            k0_pay159, k0_pay160, k0_pay161, k0_pay162, k0_pay163, k0_pay164, k0_pay165, k0_pay166, k0_pay167,
            k0_pay168, k0_pay169, k0_pay170, k0_pay171, k0_pay172, k0_pay173, k0_pay174, k0_pay175, k0_pay176,
            k0_pay177, k0_pay178, k0_pay179, k0_pay180, k0_pay181, k0_pay182, k0_pay183, k0_pay184, k0_pay185,
            k0_pay186, k0_pay187, k0_pay188, k0_pay189, k0_pay190, k0_pay191, k0_pay192, k0_pay193, k0_pay194,
            k0_pay195, k0_pay196, k0_pay197, k0_pay198, k0_pay199, k0_pay200, k0_pay201, k0_pay202, k0_pay203,
            k0_pay204, k0_pay205, k0_pay206, k0_pay207, k0_pay208, k0_pay209, k0_pay210, k0_pay211, k0_pay212,
            k0_pay213, k0_pay214, k0_pay215, k0_pay216, k0_pay217, k0_pay218, k0_pay219, k0_pay220, k0_pay221,
            k0_pay222, k0_pay223, k0_pay224, k0_pay225, k0_pay226, k0_pay227, k0_pay228, k0_pay229, k0_pay230,
            k0_pay231, k0_pay232, k0_pay233, k0_pay234, k0_pay235, k0_pay236, k0_pay237, k0_pay238, k0_pay239,
            k0_pay240, k0_pay241, k0_pay242, k0_pay243, k0_pay244, k0_pay245, k0_pay246, k0_pay247, k0_pay248,
            k0_pay249, k0_pay250, k0_pay251, k0_pay252, k0_pay253, k0_pay254, k0_pay255, k0_pay256, k0_pay257,
            k0_pay258, k0_pay259, k0_pay260, k0_pay261, k0_pay262, k0_pay263, k0_pay264, k0_pay265, k0_pay266,
            k0_pay267, k0_pay268, k0_pay269, k0_pay270, k0_pay271, k0_pay272, k0_pay273, k0_pay274, k0_pay275,
            k0_pay276, k0_pay277, k0_pay278, k0_pay279, k0_pay280, k0_pay281, k0_pay282, k0_pay283, k0_pay284,
            k0_pay285, k0_pay286, k0_pay287, k0_pay288, k0_pay289, k0_pay290, k0_pay291, k0_pay292, k0_pay293,
            k0_pay294, k0_pay295,
            Memref.IsWhole.readAt_unread, deq, lut, pick]
      · intro y
        have hy : (y 1).val < 4096 := (y 1).isLt
        simp only [List.mem_cons, exists_eq_or_imp, exists_eq_left, List.not_mem_nil, _root_.false_and, exists_false,
          _root_.or_false, mem_W]
        omega

    isplitl [H8]
    · iexists _; isplitr; swap; · iexact H8
      ipureintro
      exact hf8

    isplitl [HS0]
    · iexists _; isplitr; swap; · iexact HS0
      ipureintro
      exact harg10.read_unread _

    iexists _, _; isplitr; swap; · iexact HS1
    ipureintro; rfl

end Cert.KernelIdeal.Hand

end
-- ==== Proof.Launch.lean ====
/- The launch of the kernel: the pipeline's proof data with the two outputs named, the body obligation at every grid
   point, the run, the frame, and what the two output arrays end up holding. -/
module

public import proofs.«01_k».proof.Proof.Run
public import Idealize.ShloMosaic.Lib.Pipeline.ValueKit

@[expose] public section

-- the arrays' axes are long: a membership in a rectangle of them recurses deeply
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The first grid point. -/
def pt0 : Fin cfg0.N := ⟨0, by rw [show cfg0.N = 28 from N_0]; decide⟩

/-- The rotated activations of core `c`, which point 0 leaves in the scratch buffer and every point multiplies with. -/
def xdv (c : Dev nD) : FVec Ideal S1152x4096 .bf16 := XD (iblk m c 1 pt0) (iblk m c 2 pt0) (iblk m c 3 pt0)

/-- The rotated activations in natural column order, which point 0 leaves in the second output. -/
def xrv (c : Dev nD) : FVec Ideal S1152x4096 .bf16 := XR (iblk m c 1 pt0) (iblk m c 2 pt0) (iblk m c 3 pt0) (iblk m c 4 pt0)

/-- The block of the product which point `t` leaves in the first output. -/
def yv (c : Dev nD) (t : Fin cfg0.N) : FVec Ideal S1152x512 .bf16 := Y (xdv m c) (W (iblk m c 0 t) (iblk m c 5 t) (iblk m c 6 t))

/-- What holds of the scratch buffers between the points: at the start nothing is named; after any point the first
    one holds the rotated activations. -/
def PhiS (c : Dev nD) : (n : ℕ) → n ≤ cfg0.N → sProp 𝕄
  | 0, _ => Pipeline.ΦA spec0 c
  | _ + 1, _ => iprop(iprop(owns (c : Thread nD τ) scM0_0 fullShare (xdv m c) ∗ (∃ d, owns (c : Thread nD τ) scM0_1 fullShare d))
      ∗ (∃ r, prngReg c r))

/-- The proof data of the one pipeline on core `c`: the arrays as the region finds them (`V`); after the body at
    point `t` each input's buffer at its block, the first output's at its block of the product, the second output's at
    the rotated activations; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yv m c t
    | ⟨8, _⟩ => xrv m c
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, at the point's number. -/
theorem Phi_castSucc (c : Dev nD) (t : Fin cfg0.N) : (dats m 0 c).Φ t.castSucc = PhiS m c t.val (Nat.le_of_lt t.isLt) := by
  dsimp only [dats]; exact Pipeline.Dat.Φ_castSucc (PhiS m c) t

/-- The invariant after a point. -/
theorem Phi_succ (c : Dev nD) (t : Fin cfg0.N) : (dats m 0 c).Φ t.succ
    = iprop(iprop(owns (c : Thread nD τ) scM0_0 fullShare (xdv m c) ∗ (∃ d, owns (c : Thread nD τ) scM0_1 fullShare d))
      ∗ (∃ r, prngReg c r)) := by
  dsimp only [dats]; rfl

/-- The invariant before a point that is not the first. -/
theorem PhiS_pos (c : Dev nD) : ∀ (n : ℕ) (h : n ≤ cfg0.N), n ≠ 0 → PhiS m c n h
    = iprop(iprop(owns (c : Thread nD τ) scM0_0 fullShare (xdv m c) ∗ (∃ d, owns (c : Thread nD τ) scM0_1 fullShare d))
      ∗ (∃ r, prngReg c r))
  | 0, _, h => absurd rfl h
  | _ + 1, _, _ => rfl

/-- What the body leaves, window by window (the proof data's `match` reduced by `dsimp`). -/
theorem after0_0 (c : Dev nD) (t : Fin cfg0.N) : (dats m 0 c).after 0 t = iblk m c 0 t := by dsimp only [dats]

/-- The body leaves in window 1 its block. -/
theorem after0_1 (c : Dev nD) (t : Fin cfg0.N) : (dats m 0 c).after 1 t = iblk m c 1 t := by dsimp only [dats]

/-- The body leaves in window 2 its block. -/
theorem after0_2 (c : Dev nD) (t : Fin cfg0.N) : (dats m 0 c).after 2 t = iblk m c 2 t := by dsimp only [dats]

/-- The body leaves in window 3 its block. -/
theorem after0_3 (c : Dev nD) (t : Fin cfg0.N) : (dats m 0 c).after 3 t = iblk m c 3 t := by dsimp only [dats]

/-- The body leaves in window 4 its block. -/
theorem after0_4 (c : Dev nD) (t : Fin cfg0.N) : (dats m 0 c).after 4 t = iblk m c 4 t := by dsimp only [dats]

/-- The body leaves in window 5 its block. -/
theorem after0_5 (c : Dev nD) (t : Fin cfg0.N) : (dats m 0 c).after 5 t = iblk m c 5 t := by dsimp only [dats]

/-- The body leaves in window 6 its block. -/
theorem after0_6 (c : Dev nD) (t : Fin cfg0.N) : (dats m 0 c).after 6 t = iblk m c 6 t := by dsimp only [dats]

/-- The body leaves in window 7 its payload. -/
theorem after0_7 (c : Dev nD) (t : Fin cfg0.N) : (dats m 0 c).after 7 t = yv m c t := by dsimp only [dats]

/-- The body leaves in window 8 its payload. -/
theorem after0_8 (c : Dev nD) (t : Fin cfg0.N) : (dats m 0 c).after 8 t = xrv m c := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- The body finds in window 1 its block. -/
theorem before0_1 (c : Dev nD) (t : Fin cfg0.N) (d) : (dats m 0 c).before 1 t d = iblk m c 1 t :=
  before0_1_of m (dats m 0 c) (A_eq m c 1) (after0_1 m c) t d

/-- The body finds in window 2 its block. -/
theorem before0_2 (c : Dev nD) (t : Fin cfg0.N) (d) : (dats m 0 c).before 2 t d = iblk m c 2 t :=
  before0_2_of m (dats m 0 c) (A_eq m c 2) (after0_2 m c) t d

/-- The body finds in window 3 its block. -/
theorem before0_3 (c : Dev nD) (t : Fin cfg0.N) (d) : (dats m 0 c).before 3 t d = iblk m c 3 t :=
  before0_3_of m (dats m 0 c) (A_eq m c 3) (after0_3 m c) t d

/-- The body finds in window 4 its block. -/
theorem before0_4 (c : Dev nD) (t : Fin cfg0.N) (d) : (dats m 0 c).before 4 t d = iblk m c 4 t :=
  before0_4_of m (dats m 0 c) (A_eq m c 4) (after0_4 m c) t d

/-- The body finds in window 5 its block. -/
theorem before0_5 (c : Dev nD) (t : Fin cfg0.N) (d) : (dats m 0 c).before 5 t d = iblk m c 5 t :=
  before0_5_of m (dats m 0 c) (A_eq m c 5) (after0_5 m c) t d

/-- The body finds in window 6 its block. -/
theorem before0_6 (c : Dev nD) (t : Fin cfg0.N) (d) : (dats m 0 c).before 6 t d = iblk m c 6 t :=
  before0_6_of m (dats m 0 c) (A_eq m c 6) (after0_6 m c) t d

/-! ## The second output, written at the first point only -/

/-- The first point is the only one that writes the second output. -/
theorem idle8_first (t : Fin cfg0.N) (h : t.val = 0) : cfg0.idle 8 (grid0.coords t) = false := by
  have h1 : k0_cond1 (grid0.coords t) = 1#1 := (hcond0_0 t).mpr (by omega)
  show (!(k0_cond1 (grid0.coords t) == 1#1)) = false
  rw [h1]; rfl

/-- Every later point leaves it alone. -/
theorem idle8_later (t : Fin cfg0.N) (h : t.val ≠ 0) : cfg0.idle 8 (grid0.coords t) = true := by
  have hN : t.val < 28 := lt_of_lt_of_eq t.isLt (show cfg0.N = 28 from N_0)
  have h1 : ¬ k0_cond1 (grid0.coords t) = 1#1 := fun e => by have := (hcond0_0 t).mp e; omega
  show (!(k0_cond1 (grid0.coords t) == 1#1)) = true
  simp only [Bool.not_eq_true', beq_eq_false_iff_ne]; exact h1

/-- The second output is written back after the last point only. -/
theorem flush8_not_last (t : Fin cfg0.N) (h : t.val < 27) : (cfg0.win 8).flush t = false :=
  Bool.eq_false_iff.mpr fun e => by have := (flush0_8 t).mp e; omega

/-- At every point after the first the second output's buffer holds the rotated activations. -/
theorem before0_8 (c : Dev nD) : ∀ (n : ℕ) (h : n + 1 < cfg0.N) (d), (dats m 0 c).before 8 ⟨n + 1, h⟩ d = xrv m c := by
  intro n
  induction n with
  | zero =>
    intro h d
    rw [(dats m 0 c).before_of_pos 8 ⟨0 + 1, h⟩ (by simp) ((cfg0.win 8).fetch_out rfl _)]
    have hf : (cfg0.win 8).flush ⟨0, Nat.lt_of_succ_lt h⟩ = false := flush8_not_last _ (by show 0 < 27; decide)
    have hi : cfg0.idle 8 (grid0.coords ⟨0, Nat.lt_of_succ_lt h⟩) = false := idle8_first _ rfl
    show (if (cfg0.win 8).flush ⟨0, _⟩ then d else (dats m 0 c).left 8 ⟨0, _⟩ d) = _
    rw [hf, if_neg Bool.false_ne_true]
    unfold Dat.left
    rw [hi]
    show (dats m 0 c).kept 8 _ d = _
    unfold Dat.kept
    rw [after0_8, Pipeline.fill_of_clip_none 8 _ (fun _ => rfl) d (xrv m c), Window.fill_cut]
  | succ n ih =>
    intro h d
    have hN : cfg0.N = 28 := N_0
    rw [(dats m 0 c).before_of_pos 8 ⟨n + 1 + 1, h⟩ (by simp) ((cfg0.win 8).fetch_out rfl _)]
    have hf : (cfg0.win 8).flush ⟨n + 1, Nat.lt_of_succ_lt h⟩ = false := flush8_not_last _ (by show n + 1 < 27; omega)
    have hi : cfg0.idle 8 (grid0.coords ⟨n + 1, Nat.lt_of_succ_lt h⟩) = true := idle8_later _ (by simp)
    show (if (cfg0.win 8).flush ⟨n + 1, _⟩ then d else (dats m 0 c).left 8 ⟨n + 1, _⟩ d) = _
    rw [hf, if_neg Bool.false_ne_true]
    unfold Dat.left
    rw [hi]
    exact ih _ d

/-- The same at a point named by its number. -/
theorem before0_8' (c : Dev nD) (t : Fin cfg0.N) (h : t.val ≠ 0) (d) : (dats m 0 c).before 8 t d = xrv m c := by
  obtain ⟨_ | n, ht⟩ := t
  · exact absurd rfl h
  · exact before0_8 m c n ht d

/-- What a later point owes of the second output is that its buffer still holds the rotated activations. -/
theorem leaves0_8 (c : Dev nD) (t : Fin cfg0.N) (h : t.val ≠ 0) :
    owns (c : Thread nD τ) (ms0_8 t) fullShare (xrv m c) ⊢ (dats m 0 c).leavesExact 8 t := by
  by_cases hl : (cfg0.win 8).flush t = true
  · rw [show (dats m 0 c).leavesExact 8 t = owns (c : Thread nD τ) (ms0_8 t) fullShare ((dats m 0 c).after 8 t) from by
      unfold Dat.leavesExact; rw [idle8_later t h, hl], after0_8]
  · rw [(dats m 0 c).leavesExact_idle 8 t (idle8_later t h) (Bool.eq_false_iff.mpr hl)]
    iintro H
    iexists (xrv m c)
    rw [before0_8' m c t h]
    iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point: the inputs' buffers hold their blocks; at the first point the body writes the rotated
    activations, later it finds them; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [Phi_castSucc, Phi_succ]
  have hN : t.val < 28 := lt_of_lt_of_eq t.isLt (show cfg0.N = 28 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from rfl, after0_7]
  by_cases h0 : t.val % 28 = 0
  · obtain rfl : t = pt0 := Fin.ext (show t.val = 0 by omega)
    rw [show (dats m 0 c).leavesExact 8 pt0 = owns (c : Thread nD τ) (ms0_8 pt0) fullShare ((dats m 0 c).after 8 pt0) from by
      unfold Dat.leavesExact; rw [idle8_first pt0 rfl], after0_8]
    rw [show PhiS m c (pt0).val (Nat.le_of_lt (pt0).isLt) = Pipeline.ΦA spec0 c from rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords pt0) _ _ _ _ _ _ _ _ _ _ _ _ _ _ _ _ _ _ _ _ _ _ ((hcond0_0 pt0).mpr h0) (iblk m c 0 pt0) (iblk m c 1 pt0) (iblk m c 2 pt0) (iblk m c 3 pt0) (iblk m c 4 pt0) (iblk m c 5 pt0) (iblk m c 6 pt0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have ht : t.val ≠ 0 := fun e => h0 (by omega)
    rw [PhiS_pos m c t.val _ ht]
    simp only [before0_8' m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (xdv m c) (xrv m c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves0_8 m c t ht); iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

/-- The invariant starts from the scratch buffers at any contents, -/
theorem Phi_in (c : Dev nD) : Pipeline.ΦA spec0 c ⊢ (dats m 0 c).Φ 0 := by
  rw [show (dats m 0 c).Φ 0 = Pipeline.ΦA spec0 c from by dsimp only [dats]; rfl]

/-- and hands them back. -/
theorem Phi_out (c : Dev nD) : (dats m 0 c).Φ (Fin.last cfg0.N) ⊢ Pipeline.ΦA spec0 c := by
  have hN : cfg0.N = 28 := N_0
  rw [show (dats m 0 c).Φ (Fin.last cfg0.N) = PhiS m c cfg0.N le_rfl from by dsimp only [dats]; rfl, PhiS_pos m c _ _ (by omega), PhiA0_eq]
  iintro ⟨⟨HS0, HS1⟩, Hg⟩
  isplitl [HS0 HS1]
  · isplitl [HS0]
    · iexists _; iexact HS0
    iexact HS1
  iexact Hg

-- `θ_run_frame_track`'s implicit arguments are found by unifying its conclusion with this one, which takes unfolding plain
-- definitions in a metavariable's type
set_option backward.isDefEq.respectTransparency.types false in
/-- The launch: every execution terminates, the windowed arrays hold what the proof data says, every other buffer its
    region-entry contents, and every semaphore counter of the machine is zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Ref.lean ====
/- The run of the reference: it ends, its arguments unchanged, every counter at zero. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.Quiescent
public import Idealize.ShloMosaic.Lib.Claim

@[expose] public section

noncomputable section

namespace Cert.ReferenceIdeal.Hand

open Cert.ReferenceIdeal
open Idealize.ShloMosaic Idealize.ShloMosaic.TcCoe Idealize.SL.Sem

variable {F : FTy → Type} [FloatOps F]
variable (m : (ℓ : Loc nD τ sig) → Buf (Elt F) ℓ) (ρ : Dev nD → PrngReg)

/-- The reference's frame: it runs to the end, its argument arrays unchanged, and (it has no semaphore) every counter
    is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems (by decide) r.2⟩) (Value.run m ρ)

end Cert.ReferenceIdeal.Hand

end
-- ==== Proof.Math.lean ====
/- The mathematics of the rotated 4-bit linear layer, over plain functions: signs of the Hadamard matrix and how they
   factor, the rotation of a group of 1024 columns from its four quarters, the dequantized weight, the product, and the
   two orders in which the product's columns are summed. -/
module

public import Idealize.ShloMosaic.Lib.Pointwise

@[expose] public section

noncomputable section

namespace Cert.Hand

open Idealize.ShloMosaic

/-! ## The Hadamard signs -/

/-- 1 − 2·(number of ones of `w` modulo 2), as the programs compute it on 32-bit words. -/
def sgn (w : BitVec 32) : ℤ :=
  (IntOp.subi 1#32 (IntOp.muli 2#32 (IntOp.andi (IntOp.ctpop w) 1#32))).toInt

/-- The entry (i, k) of the Hadamard matrix, 1 or −1. -/
def had (i k : ℕ) : ℤ := sgn (IntOp.andi (BitVec.ofNat 32 i) (BitVec.ofNat 32 k))

/-- The bits of two numbers in common, the bits above the eighth and those below apart. -/
theorem and_split (s' i s k : ℕ) (hi : i < 256) (hk : k < 256) :
    (256 * s' + i) &&& (256 * s + k) = 256 * (s' &&& s) + (i &&& k) := by
  have h : (i &&& k) < 2 ^ 8 := Nat.and_lt_two_pow i hk
  refine Nat.eq_of_testBit_eq fun j => ?_
  rw [Nat.testBit_and, show (256 : ℕ) = 2 ^ 8 from rfl, Nat.testBit_two_pow_mul_add s' hi, Nat.testBit_two_pow_mul_add s hk,
    Nat.testBit_two_pow_mul_add (s' &&& s) h]
  split <;> rw [Nat.testBit_and]

/-- The sign of a ten-bit number is the sign of its upper two bits times the sign of its lower eight. -/
theorem sgn_split : ∀ (w : Fin 4) (z : Fin 256),
    sgn (BitVec.ofNat 32 (256 * w.val + z.val)) = sgn (BitVec.ofNat 32 w.val) * sgn (BitVec.ofNat 32 z.val) := by
  decide +kernel

/-- The Hadamard matrix of order 1024 is the product of the one of order 4 and the one of order 256. -/
theorem had_split (s' i s k : ℕ) (hs : s < 4) (hi : i < 256) (hk : k < 256) :
    had (256 * s' + i) (256 * s + k) = had s' s * had i k := by
  have h1 : (s' &&& s) < 4 := Nat.and_lt_two_pow s' (n := 2) hs
  have h2 : (i &&& k) < 256 := Nat.and_lt_two_pow i (n := 8) hk
  have e : ∀ a b : ℕ, IntOp.andi (BitVec.ofNat 32 a) (BitVec.ofNat 32 b) = BitVec.ofNat 32 (a &&& b) := fun a b => by
    rw [BitVec.ofNat_and]; rfl
  unfold had
  rw [e, e, e, and_split s' i s k hi hk]
  exact sgn_split ⟨_, h1⟩ ⟨_, h2⟩

/-- The Hadamard matrix of order 4. -/
theorem had_four : ∀ s' s : Fin 4, had s'.val s.val = if (s'.val &&& s.val) = 1 ∨ (s'.val &&& s.val) = 2 then -1 else 1 := by
  decide +kernel

/-- The entry as the programs compute it at the width of 32 bits. -/
theorem had_word (i k : ℕ) (w : BitVec 32) (hw : w = BitVec.ofNat 32 k) :
    (IntOp.subi 1#32 (IntOp.muli 2#32 (IntOp.andi (IntOp.ctpop (IntOp.andi (BitVec.ofNat 32 i) w)) 1#32))).toInt = had i k := by
  rw [hw]; rfl

/-- Twice a number plus another, as 32-bit words. -/
theorem word_two_mul_add (j e : ℕ) :
    IntOp.addi (IntOp.muli 2#32 (BitVec.ofNat 32 j)) (BitVec.ofNat 32 e) = BitVec.ofNat 32 (2 * j + e) := by
  rw [BitVec.ofNat_add, BitVec.ofNat_mul]; rfl

/-- The kernel's order of 256 columns: the even ones first. -/
def kcol (n : ℕ) : ℕ := 2 * (n % 128) + n / 128

/-- The place of a column in it. -/
theorem kcol_inv (z : ℕ) (hz : z < 256) : kcol (z / 2 + 128 * (z % 2)) = z := by
  unfold kcol
  omega

/-- The 32-bit word from which the kernel builds that order. -/
def kword (n : ℕ) : BitVec 32 :=
  Scalar.select (IntOp.cmpi .slt (BitVec.ofNat 32 n) 128#32) (IntOp.muli 2#32 (BitVec.ofNat 32 n))
    (IntOp.addi (IntOp.muli 2#32 (IntOp.subi (BitVec.ofNat 32 n) 128#32)) 1#32)

/-- It is the column's number. -/
theorem kword_eq : ∀ n : Fin 256, kword n.val = BitVec.ofNat 32 (kcol n.val) := by decide +kernel

/-- The test of two columns for equality, as a number. -/
theorem eq_word (a b : ℕ) (ha : a < 256) (hb : b < 256) :
    (IntOp.cmpi .eq (BitVec.ofNat 32 a) (BitVec.ofNat 32 b)).toNat = if a = b then 1 else 0 := by
  by_cases h : a = b
  · subst h
    simp [IntOp.cmpi]
  · have hne : BitVec.ofNat 32 a ≠ BitVec.ofNat 32 b := fun e => h (by
      have := congrArg BitVec.toNat e
      rw [BitVec.toNat_ofNat, BitVec.toNat_ofNat] at this
      omega)
    simp [IntOp.cmpi, hne, h]

/-! ## The rotation -/

/-- A finite sum of reals, as extended reals. -/
theorem coe_sum {n : ℕ} (f : Fin n → ℝ) : ((∑ i, f i : ℝ) : EReal) = ∑ i, (f i : EReal) := by
  classical
  refine Finset.induction_on (Finset.univ : Finset (Fin n)) (by simp) fun a t ha ih => ?_
  rw [Finset.sum_insert ha, Finset.sum_insert ha, EReal.coe_add, ih]

/-- The signed activations: row `r` of the three stacked inputs, column `q`, times the column's sign. -/
def act (x : Fin 3 → Fin 384 → Fin 4096 → EReal) (sg : Fin 4096 → BitVec 8) (r : Fin 1152) (q : Fin 4096) : EReal :=
  x ⟨r.val / 384, by omega⟩ ⟨r.val % 384, by omega⟩ q * ((((sg q).signExtend 32).toInt : ℝ) : EReal)

/-- A sum over 1024 columns is the sum over four quarters of 256. -/
theorem sum_quarters {M : Type} [AddCommMonoid M] (f : Fin 1024 → M) :
    ∑ i, f i = ∑ s : Fin 4, ∑ i : Fin 256, f ⟨256 * s.val + i.val, by omega⟩ := by
  rw [← Equiv.sum_comp (finProdFinEquiv : Fin 4 × Fin 256 ≃ Fin 1024), Fintype.sum_prod_type]
  refine Finset.sum_congr rfl fun s _ => Finset.sum_congr rfl fun i _ => congrArg f (Fin.ext ?_)
  show i.val + 256 * s.val = 256 * s.val + i.val
  omega

/-- The sums and differences of the four quarters' partial products are the product with column `256 s + k` of the
    Hadamard matrix of order 1024. -/
theorem rot_real (a : Fin 1024 → ℝ) (s : Fin 4) (k : Fin 256) (t : Fin 4 → ℝ)
    (ht : ∀ j : Fin 4, t j = ∑ i : Fin 256, a ⟨256 * j.val + i.val, by omega⟩ * (had i.val k.val : ℝ)) :
    (if s.val = 0 then (t 0 + t 1) + (t 2 + t 3) else if s.val = 1 then (t 0 - t 1) + (t 2 - t 3)
      else if s.val = 2 then (t 0 + t 1) - (t 2 + t 3) else (t 0 - t 1) - (t 2 - t 3))
      = ∑ i : Fin 1024, a i * (had i.val (256 * s.val + k.val) : ℝ) := by
  have h : ∑ i : Fin 1024, a i * (had i.val (256 * s.val + k.val) : ℝ) = ∑ j : Fin 4, (had j.val s.val : ℝ) * t j := by
    rw [sum_quarters]
    refine Finset.sum_congr rfl fun j _ => ?_
    rw [ht j, Finset.mul_sum]
    refine Finset.sum_congr rfl fun i _ => ?_
    show a _ * (had (256 * j.val + i.val) (256 * s.val + k.val) : ℝ) = _
    rw [had_split j.val i.val s.val k.val s.isLt i.isLt k.isLt]
    push_cast
    ring
  rw [h, Fin.sum_univ_four]
  simp only [had_four]
  fin_cases s <;> simp <;> ring

/-- Row `r` of the activations times column `col` of the block-diagonal Hadamard matrix (blocks of order 1024), times
    the constant `κ`. -/
def rotated (κ : EReal) (a : Fin 1152 → Fin 4096 → EReal) (r : Fin 1152) (col : Fin 4096) : EReal :=
  (∑ i : Fin 1024, a r ⟨1024 * (col.val / 1024) + i.val, by omega⟩ * ((had i.val (col.val % 1024) : ℝ) : EReal)) * κ

/-! ## The weights -/

/-- The codebook entry that four bits select, by the tree of choices both programs make. -/
def tree (cb : Fin 16 → EReal) (b3 b2 b1 b0 : BitVec 1) : EReal :=
  Scalar.select b3
    (Scalar.select b2
      (Scalar.select b1 (Scalar.select b0 (cb 15) (cb 14)) (Scalar.select b0 (cb 13) (cb 12)))
      (Scalar.select b1 (Scalar.select b0 (cb 11) (cb 10)) (Scalar.select b0 (cb 9) (cb 8))))
    (Scalar.select b2
      (Scalar.select b1 (Scalar.select b0 (cb 7) (cb 6)) (Scalar.select b0 (cb 5) (cb 4)))
      (Scalar.select b1 (Scalar.select b0 (cb 3) (cb 2)) (Scalar.select b0 (cb 1) (cb 0))))

/-- The low (`e = 0`) or high half of a byte. -/
def nibble (q : BitVec 8) (e : ℕ) : Fin 16 := if e = 0 then ⟨q.toNat % 16, by omega⟩ else ⟨q.toNat / 16, by omega⟩

/-- A bit of a four-bit number, as a one-bit word. -/
def bitOf (n : Fin 16) (k : ℕ) : BitVec 1 := BitVec.ofBool (n.val.testBit k)

/-- The tree of choices by a number's own bits is the entry at the number. -/
theorem tree_bits (cb : Fin 16 → EReal) (n : Fin 16) : tree cb (bitOf n 3) (bitOf n 2) (bitOf n 1) (bitOf n 0) = cb n := by
  fin_cases n <;> rfl

/-- Bit `b` of a 32-bit word, as the reference tests it. -/
def refBit (q b : BitVec 32) : BitVec 1 := IntOp.cmpi .ne (IntOp.andi (IntOp.shrsi .host q b) 1#32) 0#32

/-- The four bits that the reference tests are those of the byte's low half, -/
theorem ref_low_bits : ∀ q : BitVec 8,
    refBit (IntOp.andi (q.setWidth 32) 15#32) 3#32 = bitOf (nibble q 0) 3 ∧ refBit (IntOp.andi (q.setWidth 32) 15#32) 2#32 = bitOf (nibble q 0) 2
    ∧ refBit (IntOp.andi (q.setWidth 32) 15#32) 1#32 = bitOf (nibble q 0) 1 ∧ refBit (IntOp.andi (q.setWidth 32) 15#32) 0#32 = bitOf (nibble q 0) 0 := by
  decide +kernel

/-- or those of its high half. -/
theorem ref_high_bits : ∀ q : BitVec 8,
    refBit (IntOp.shrsi .host (q.setWidth 32) 4#32) 3#32 = bitOf (nibble q 1) 3 ∧ refBit (IntOp.shrsi .host (q.setWidth 32) 4#32) 2#32 = bitOf (nibble q 1) 2
    ∧ refBit (IntOp.shrsi .host (q.setWidth 32) 4#32) 1#32 = bitOf (nibble q 1) 1 ∧ refBit (IntOp.shrsi .host (q.setWidth 32) 4#32) 0#32 = bitOf (nibble q 1) 0 := by
  decide +kernel

/-- The reference's lookup by the bits of `q`. -/
def refLut (cb : Fin 16 → EReal) (q : BitVec 32) : EReal :=
  tree cb (refBit q 3#32) (refBit q 2#32) (refBit q 1#32) (refBit q 0#32)

/-- It is the codebook entry of the byte's low half, -/
theorem refLut_low (cb : Fin 16 → EReal) (q : BitVec 8) : refLut cb (IntOp.andi (q.setWidth 32) 15#32) = cb (nibble q 0) := by
  obtain ⟨h3, h2, h1, h0⟩ := ref_low_bits q
  rw [refLut, h3, h2, h1, h0, tree_bits]

/-- or of its high half. -/
theorem refLut_high (cb : Fin 16 → EReal) (q : BitVec 8) : refLut cb (IntOp.shrsi .host (q.setWidth 32) 4#32) = cb (nibble q 1) := by
  obtain ⟨h3, h2, h1, h0⟩ := ref_high_bits q
  rw [refLut, h3, h2, h1, h0, tree_bits]

/-- The weight at row `n` and column `col`: the codebook entry at the column's four-bit code, times its group's scale. -/
def weight (cb : Fin 16 → EReal) (code : Fin 14336 → Fin 2048 → BitVec 8) (sc : Fin 14336 → Fin 4 → EReal)
    (n : Fin 14336) (col : Fin 4096) : EReal :=
  cb (nibble (code n ⟨col.val / 2, by omega⟩) (col.val % 2)) * sc n ⟨col.val / 1024, by omega⟩

/-- The weight at a column whose byte, half and group are known. -/
theorem weight_at (cb : Fin 16 → EReal) (code : Fin 14336 → Fin 2048 → BitVec 8) (sc : Fin 14336 → Fin 4 → EReal)
    (n : Fin 14336) (col : Fin 4096) (k : Fin 2048) (e : ℕ) (s : Fin 4) (hk : col.val / 2 = k.val) (he : col.val % 2 = e)
    (hs : col.val / 1024 = s.val) : weight cb code sc n col = cb (nibble (code n k) e) * sc n s := by
  have e1 : (⟨col.val / 2, by omega⟩ : Fin 2048) = k := Fin.ext hk
  have e2 : (⟨col.val / 1024, by omega⟩ : Fin 4) = s := Fin.ext hs
  unfold weight
  rw [e1, e2, he]

/-! ## The product -/

/-- The order in which the kernel keeps the columns: in each 256 columns, the even ones first. -/
def deint (col : Fin 4096) : Fin 4096 := ⟨256 * (col.val / 256) + (2 * (col.val % 128) + col.val / 128 % 2), by omega⟩

/-- It is a permutation of the columns. -/
theorem deint_bijective : Function.Bijective deint := by
  refine (Finite.injective_iff_bijective).mp fun p q h => Fin.ext ?_
  have e : 256 * (p.val / 256) + (2 * (p.val % 128) + p.val / 128 % 2) = 256 * (q.val / 256) + (2 * (q.val % 128) + q.val / 128 % 2) :=
    congrArg Fin.val h
  omega

/-- So a sum over the columns in the kernel's order is the sum over the columns. -/
theorem sum_deint (f : Fin 4096 → EReal) : ∑ col, f (deint col) = ∑ col, f col := deint_bijective.sum_comp f

/-- The sum over the even columns plus the sum over the odd ones is the sum over the columns. -/
theorem sum_even_odd (f : Fin 4096 → EReal) :
    ∑ k : Fin 2048, f ⟨2 * k.val, by omega⟩ + ∑ k : Fin 2048, f ⟨2 * k.val + 1, by omega⟩ = ∑ col, f col := by
  rw [← Equiv.sum_comp (finProdFinEquiv : Fin 2048 × Fin 2 ≃ Fin 4096), Fintype.sum_prod_type, ← Finset.sum_add_distrib]
  refine Finset.sum_congr rfl fun k _ => ?_
  rw [Fin.sum_univ_two]
  refine congrArg₂ (· + ·) (congrArg f (Fin.ext ?_)) (congrArg f (Fin.ext ?_))
  · show 2 * k.val = 0 + 2 * k.val; omega
  · show 2 * k.val + 1 = 1 + 2 * k.val; omega

end Cert.Hand

end
-- ==== Proof.Rotation.lean ====
/- The kernel's rotation in two factors (a 256 × 256 Hadamard product in each quarter of a group, then the sums and
   differences of the quarters) is the rotation by the Hadamard matrix of order 1024, when the activations are finite;
   and what it holds in its own column order and in the natural one. -/
module

public import proofs.«01_k».proof.Proof.Block
public import proofs.«01_k».proof.Proof.Math

@[expose] public section

noncomputable section

namespace Cert.KernelIdeal.Hand

open Idealize.ShloMosaic Cert.KernelIdeal Cert.Hand

variable (x : FVec Ideal S1152x4096 .bf16) (sg : FVec Ideal S1x4096 .bf16) (h p : FVec Ideal S256x256 .bf16)

/-- The second factor over finite numbers is the second factor over the reals. -/
theorem rot_coe (s : ℕ) (t : Fin 4 → ℝ) : rot s (t 0) (t 1) (t 2) (t 3)
    = ((if s = 0 then (t 0 + t 1) + (t 2 + t 3) else if s = 1 then (t 0 - t 1) + (t 2 - t 3)
        else if s = 2 then (t 0 + t 1) - (t 2 + t 3) else (t 0 - t 1) - (t 2 - t 3) : ℝ) : EReal) := by
  unfold rot
  split_ifs <;> push_cast <;> rfl

/-- A tile's entry over finite signed activations. -/
theorem tile_coe (r : Fin 1152) (a : Fin 4096 → ℝ) (ha : ∀ q, x (ix2 r q) * sg (ix2 (0 : Fin 1) q) = ((a q : ℝ) : EReal))
    (hh : ∀ i b : Fin 256, h (ix2 i b) = ((had i.val (kcol b.val) : ℝ) : EReal)) (q : ℕ) (hq : q + 256 ≤ 4096) (b : Fin 256) :
    tile x sg h r q hq b = ((∑ i : Fin 256, a ⟨q + i.val, by omega⟩ * (had i.val (kcol b.val) : ℝ) : ℝ) : EReal) := by
  rw [coe_sum]
  refine Finset.sum_congr rfl fun i _ => ?_
  rw [ha, hh, EReal.coe_mul]

/-- The rotated activation at sub-block `s`, entry `b` of the group that starts at `q`. -/
theorem rotAt_eq (r : Fin 1152) (a : Fin 4096 → ℝ) (ha : ∀ q, x (ix2 r q) * sg (ix2 (0 : Fin 1) q) = ((a q : ℝ) : EReal))
    (hh : ∀ i b : Fin 256, h (ix2 i b) = ((had i.val (kcol b.val) : ℝ) : EReal)) (q : ℕ) (hq : q + 1024 ≤ 4096) (s : Fin 4)
    (b : Fin 256) : rotAt x sg h r q hq s.val b
      = (∑ i : Fin 1024, ((a ⟨q + i.val, by omega⟩ : ℝ) : EReal) * ((had i.val (256 * s.val + kcol b.val) : ℝ) : EReal)) * c32 := by
  have hb : kcol b.val < 256 := by unfold kcol; omega
  have ht : ∀ j : Fin 4, tile x sg h r (q + 256 * j.val) (by omega) b
      = ((∑ i : Fin 256, a ⟨q + (256 * j.val + i.val), by omega⟩ * (had i.val (kcol b.val) : ℝ) : ℝ) : EReal) := fun j => by
    rw [tile_coe x sg h r a ha hh]
    refine congrArg _ (Finset.sum_congr rfl fun i _ => congrArg (fun z => a z * _) (Fin.ext ?_))
    show q + 256 * j.val + i.val = q + (256 * j.val + i.val)
    omega
  have e := rot_real (fun i => a ⟨q + i.val, by omega⟩) s ⟨kcol b.val, hb⟩
    (fun j => ∑ i : Fin 256, a ⟨q + (256 * j.val + i.val), by omega⟩ * (had i.val (kcol b.val) : ℝ)) (fun _ => rfl)
  have e' := (rot_coe s.val (fun j => ∑ i : Fin 256, a ⟨q + (256 * j.val + i.val), by omega⟩ * (had i.val (kcol b.val) : ℝ))).trans
    (congrArg _ e)
  unfold rotAt
  refine congrArg (· * c32) ?_
  refine Eq.trans ?_ (e'.trans ?_)
  · rw [← ht 0, ← ht 1, ← ht 2, ← ht 3]
    rfl
  · rw [coe_sum]
    exact Finset.sum_congr rfl fun i _ => EReal.coe_mul _ _

variable (A : Fin 1152 → Fin 4096 → EReal) (hA : ∀ r q, x (ix2 r q) * sg (ix2 (0 : Fin 1) q) = A r q)
  (hfin : ∀ r q, ∃ z : ℝ, A r q = (z : EReal))
  (hh : ∀ i b : Fin 256, h (ix2 i b) = ((had i.val (kcol b.val) : ℝ) : EReal))

include hA hfin hh

/-- The same, named by the column `col` of the rotation that it is. -/
theorem rotAt_rotated (r : Fin 1152) (q : ℕ) (hq : q + 1024 ≤ 4096) (s : Fin 4) (b : Fin 256) (hd : 1024 ∣ q) (col : Fin 4096)
    (hc : col.val = q + 256 * s.val + kcol b.val) : rotAt x sg h r q hq s.val b = rotated c32 A r col := by
  choose a ha using fun q => hfin r q
  have hb : kcol b.val < 256 := by unfold kcol; omega
  have e1 : col.val % 1024 = 256 * s.val + kcol b.val := by omega
  have e2 : 1024 * (col.val / 1024) = q := by omega
  rw [rotAt_eq x sg h r a (fun q => (hA r q).trans (ha q)) hh q hq s b]
  unfold rotated
  refine congrArg (· * c32) (Finset.sum_congr rfl fun i _ => ?_)
  rw [e1]
  refine congrArg (· * _) ((ha _).symm.trans (congrArg (A r) (Fin.ext ?_)))
  show q + i.val = 1024 * (col.val / 1024) + i.val
  rw [e2]

/-- In the kernel's own order the rotated activations are the rotation's columns so ordered. -/
theorem XD_rotated (y : S1152x4096.Idx) : XD x sg h y = rotated c32 A (y 0) (deint (y 1)) := by
  have hy : (y 1).val < 4096 := (y 1).isLt
  unfold XD
  refine rotAt_rotated x sg h A hA hfin hh (y 0) _ _ ⟨(y 1).val / 256 % 4, by omega⟩ _ ⟨(y 1).val / 1024, by omega⟩ _ ?_
  show 256 * ((y 1).val / 256) + (2 * ((y 1).val % 128) + (y 1).val / 128 % 2)
    = (y 1).val / 1024 * 1024 + 256 * ((y 1).val / 256 % 4) + (2 * ((y 1).val % 256 % 128) + (y 1).val % 256 / 128)
  omega

/-- Multiplied by the permutation matrix of that order they are the rotation's columns in the natural order. -/
theorem XR_rotated (hp : ∀ c n : Fin 256, p (ix2 c n) = if kcol c.val = n.val then 1 else 0) (y : S1152x4096.Idx) :
    XR x sg h p y = rotated c32 A (y 0) (y 1) := by
  have hy : (y 1).val < 4096 := (y 1).isLt
  have hn : (y 1).val % 256 / 2 + 128 * ((y 1).val % 256 % 2) < 256 := by omega
  unfold XR
  rw [Finset.sum_eq_single (⟨(y 1).val % 256 / 2 + 128 * ((y 1).val % 256 % 2), hn⟩ : Fin 256)]
  · have e := kcol_inv ((y 1).val % 256) (by omega)
    rw [hp, if_pos e, mul_one]
    refine rotAt_rotated x sg h A hA hfin hh (y 0) _ _ ⟨(y 1).val / 256 % 4, by omega⟩ _ ⟨(y 1).val / 1024, by omega⟩ _ ?_
    show (y 1).val = (y 1).val / 1024 * 1024 + 256 * ((y 1).val / 256 % 4) + kcol ((y 1).val % 256 / 2 + 128 * ((y 1).val % 256 % 2))
    rw [e]
    omega
  · intro c _ hc
    rw [hp, if_neg, mul_zero]
    intro e
    refine hc (Fin.ext ?_)
    have e' : 2 * (c.val % 128) + c.val / 128 = (y 1).val % 256 := e
    show c.val = (y 1).val % 256 / 2 + 128 * ((y 1).val % 256 % 2)
    omega
  · intro hc
    exact absurd (Finset.mem_univ _) hc

end Cert.KernelIdeal.Hand

end
-- ==== Proof.Weights.lean ====
/- The kernel's lookup, bit by bit on 16-bit words, is the codebook entry at the byte's low or high half; its
   dequantized weight is the weight of the column that it stands for. -/
module

public import proofs.«01_k».proof.Proof.Block
public import proofs.«01_k».proof.Proof.Math

@[expose] public section

noncomputable section

namespace Cert.KernelIdeal.Hand

open Idealize.ShloMosaic Cert.KernelIdeal Cert.Hand

/-- The bit of `q` that the mask `b` selects, as the kernel tests it. -/
def maskBit (q b : BitVec 16) : BitVec 1 := IntOp.cmpi .ne (IntOp.andi q b) 0#16

/-- The four bits that the kernel tests are those of the byte's low half, -/
theorem mask_low_bits : ∀ q : BitVec 8,
    maskBit (q.setWidth 16) 8#16 = bitOf (nibble q 0) 3 ∧ maskBit (q.setWidth 16) 4#16 = bitOf (nibble q 0) 2
    ∧ maskBit (q.setWidth 16) 2#16 = bitOf (nibble q 0) 1 ∧ maskBit (q.setWidth 16) 1#16 = bitOf (nibble q 0) 0 := by
  decide +kernel

/-- or those of its high half. -/
theorem mask_high_bits : ∀ q : BitVec 8,
    maskBit (IntOp.shrsi .vector (q.setWidth 16) 4#16) 8#16 = bitOf (nibble q 1) 3
    ∧ maskBit (IntOp.shrsi .vector (q.setWidth 16) 4#16) 4#16 = bitOf (nibble q 1) 2
    ∧ maskBit (IntOp.shrsi .vector (q.setWidth 16) 4#16) 2#16 = bitOf (nibble q 1) 1
    ∧ maskBit (IntOp.shrsi .vector (q.setWidth 16) 4#16) 1#16 = bitOf (nibble q 1) 0 := by
  decide +kernel

/-- The kernel's lookup is the tree of choices by the four bits. -/
theorem lut_tree (cb : FVec Ideal S16 .f32) (q : BitVec 16) : lut cb q
    = tree (fun k => cb (ix1 k)) (maskBit q 8#16) (maskBit q 4#16) (maskBit q 2#16) (maskBit q 1#16) := rfl

/-- The kernel's dequantized weight: the codebook entry at the half byte, times the scale. -/
theorem deq_eq (cb : FVec Ideal S16 .f32) (hi : ℕ) (hhi : hi < 2) (code : BitVec 8) (sc : EReal) :
    deq cb hi code sc = cb (ix1 (nibble code hi)) * sc := by
  unfold deq
  refine congrArg (· * sc) ?_
  rw [lut_tree]
  interval_cases hi
  · obtain ⟨h3, h2, h1, h0⟩ := mask_low_bits code
    rw [if_pos rfl, h3, h2, h1, h0, tree_bits]
  · obtain ⟨h3, h2, h1, h0⟩ := mask_high_bits code
    rw [if_neg (by decide), h3, h2, h1, h0, tree_bits]

/-- At a column in the kernel's order it is the weight of the column that stands there. -/
theorem deq_weight (cb : FVec Ideal S16 .f32) (code : Fin 14336 → Fin 2048 → BitVec 8) (sc : Fin 14336 → Fin 4 → EReal)
    (n : Fin 14336) (k : Fin 4096) :
    deq cb (k.val / 128 % 2) (code n ⟨k.val / 256 * 128 + k.val % 128, by omega⟩) (sc n ⟨k.val / 1024, by omega⟩)
      = weight (fun k => cb (ix1 k)) code sc n (deint k) := by
  rw [deq_eq cb _ (by omega)]
  refine (weight_at (fun k => cb (ix1 k)) code sc n (deint k) _ _ _ ?_ ?_ ?_).symm
  · show (256 * (k.val / 256) + (2 * (k.val % 128) + k.val / 128 % 2)) / 2 = k.val / 256 * 128 + k.val % 128
    omega
  · show (256 * (k.val / 256) + (2 * (k.val % 128) + k.val / 128 % 2)) % 2 = k.val / 128 % 2
    omega
  · show (256 * (k.val / 256) + (2 * (k.val % 128) + k.val / 128 % 2)) / 1024 = k.val / 1024
    have e1 : (256 * (k.val / 256) + (2 * (k.val % 128) + k.val / 128 % 2)) / 256 = k.val / 256 := by omega
    rw [show 1024 = 256 * 4 from rfl, ← Nat.div_div_eq_div_mul, ← Nat.div_div_eq_div_mul, e1]

end Cert.KernelIdeal.Hand

end
-- ==== Proof.Values.lean ====
/- What the arrays hold that the kernel's windows read (the program's arguments, reshaped, and the matrices it builds),
   the blocks of them, and from these what the two result arrays hold after the run, as formulas of the arguments. -/
module

public import proofs.«01_k».proof.Proof.Launch
public import proofs.«01_k».proof.Proof.Rotation
public import proofs.«01_k».proof.Proof.Weights
public import Idealize.ShloMosaic.Lib.Pointwise
public import Idealize.ShloMosaic.Lib.StableHlo.ReadAt
public import Idealize.ShloMosaic.Lib.Pipeline.ValueKit

@[expose] public section

-- the arrays' axes are long: a membership in a rectangle of them recurses deeply
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hand

variable (m : (ℓ : Loc nD τ sig) → Buf (Elt Ideal) ℓ) (c : Dev nD)

/-- The inputs at their coordinates. -/
def argX (i : Fin 3) (j : Fin 384) (q : Fin 4096) : EReal := m (c, Proc.tc.devRef main_arg0) (ix3 i j q)

/-- The signs of the columns. -/
def argS (q : Fin 4096) : BitVec 8 := m (c, Proc.tc.devRef main_arg1) (ix1 q)

/-- The codebook. -/
def argC (k : Fin 16) : EReal := m (c, Proc.tc.devRef main_arg2) (ix1 k)

/-- The weights' code bytes. -/
def argW (n : Fin 14336) (k : Fin 2048) : BitVec 8 := m (c, Proc.tc.devRef main_arg3) (ix2 n k)

/-- The weights' scales. -/
def argG (n : Fin 14336) (s : Fin 4) : EReal := m (c, Proc.tc.devRef main_arg4) (ix2 n s)

/-- The stacked inputs as one matrix, -/
theorem V_x (r : Fin 1152) (q : Fin 4096) :
    V m c main_v4 (ix2 r q) = argX m c ⟨r.val / 384, by omega⟩ ⟨r.val % 384, by omega⟩ q := by
  unfold V
  simp only [List.flatten_cons, List.flatten_nil, List.append_nil]
  after_reads_at
  rfl

/-- the signs of the columns as numbers, -/
theorem V_sg (q : Fin 4096) : V m c main_v2 (ix2 (0 : Fin 1) q) = ((((argS m c q).signExtend 32).toInt : ℝ) : EReal) := by
  unfold V
  simp only [List.flatten_cons, List.flatten_nil, List.append_nil]
  after_reads_at
  rfl

/-- the codebook, -/
theorem V_cb (k : Fin 16) : V m c main_v3 (ix1 k) = argC m c k := by
  unfold V
  simp only [List.flatten_cons, List.flatten_nil, List.append_nil]
  after_reads_at
  rfl

/-- the Hadamard matrix of order 256 with its columns in the kernel's order, -/
theorem V_had (i b : Fin 256) : V m c main_v26 (ix2 i b) = ((had i.val (kcol b.val) : ℝ) : EReal) := by
  rw [← had_word i.val (kcol b.val) (kword b.val) (kword_eq b)]
  unfold V
  simp only [List.flatten_cons, List.flatten_nil, List.append_nil]
  after_reads_at
  rfl

/-- and the permutation matrix of that order. -/
theorem V_perm (a b : Fin 256) : V m c main_v41 (ix2 a b) = if kcol a.val = b.val then (1 : EReal) else 0 := by
  have e : (((IntOp.cmpi .eq (kword a.val) (BitVec.ofNat 32 b.val)).toNat : ℝ) : EReal) = if kcol a.val = b.val then (1 : EReal) else 0 := by
    rw [kword_eq, eq_word _ _ (by unfold kcol; omega) b.isLt]
    split <;> simp
  rw [← e]
  unfold V
  simp only [List.flatten_cons, List.flatten_nil, List.append_nil]
  after_reads_at
  rfl

/-! ## The blocks -/

/-- The window over the activations stays at their one block. -/
theorem index_x : ∀ t : Fin cfg0.N, win0_1.index t 0 = 0 ∧ win0_1.index t 1 = 0 := by decide +kernel

/-- The window over the signs stays at their one block. -/
theorem index_sg : ∀ t : Fin cfg0.N, win0_2.index t 0 = 0 ∧ win0_2.index t 1 = 0 := by decide +kernel

/-- The window over the Hadamard matrix stays at its one block. -/
theorem index_had : ∀ t : Fin cfg0.N, win0_3.index t 0 = 0 ∧ win0_3.index t 1 = 0 := by decide +kernel

/-- The window over the permutation matrix stays at its one block. -/
theorem index_perm : ∀ t : Fin cfg0.N, win0_4.index t 0 = 0 ∧ win0_4.index t 1 = 0 := by decide +kernel

/-- The window over the codebook stays at its one block. -/
theorem index_cb : ∀ t : Fin cfg0.N, win0_0.index t 0 = 0 := by decide +kernel

/-- The window over the codes is at the rows of block t. -/
theorem index_codes : ∀ t : Fin cfg0.N, win0_5.index t 0 = t.val ∧ win0_5.index t 1 = 0 := by decide +kernel

/-- The window over the scales is at the rows of block t. -/
theorem index_scales : ∀ t : Fin cfg0.N, win0_6.index t 0 = t.val ∧ win0_6.index t 1 = 0 := by decide +kernel

/-- The window over the first result is at the columns of block t. -/
theorem index_y : ∀ t : Fin cfg0.N, win0_7.index t 0 = 0 ∧ win0_7.index t 1 = t.val := by decide +kernel

/-- The activations are read whole at every point, -/
theorem iblk_x (t : Fin cfg0.N) (r : Fin 1152) (q : Fin 4096) : iblk m c 1 t (ix2 r q) = V m c main_v4 (ix2 r q) := by
  obtain ⟨e0, e1⟩ := index_x t
  blk_simp [iblk]
  refine congrArg (V m c main_v4) ?_
  blk_ext <;> simp only [e0, e1] <;> omega

/-- so are the signs, -/
theorem iblk_sg (t : Fin cfg0.N) (q : Fin 4096) : iblk m c 2 t (ix2 (0 : Fin 1) q) = V m c main_v2 (ix2 (0 : Fin 1) q) := by
  obtain ⟨e0, e1⟩ := index_sg t
  blk_simp [iblk]
  refine congrArg (V m c main_v2) ?_
  blk_ext <;> simp only [e0, e1] <;> omega

/-- the Hadamard matrix, -/
theorem iblk_had (t : Fin cfg0.N) (i b : Fin 256) : iblk m c 3 t (ix2 i b) = V m c main_v26 (ix2 i b) := by
  obtain ⟨e0, e1⟩ := index_had t
  blk_simp [iblk]
  refine congrArg (V m c main_v26) ?_
  blk_ext <;> simp only [e0, e1] <;> omega

/-- the permutation matrix, -/
theorem iblk_perm (t : Fin cfg0.N) (i b : Fin 256) : iblk m c 4 t (ix2 i b) = V m c main_v41 (ix2 i b) := by
  obtain ⟨e0, e1⟩ := index_perm t
  blk_simp [iblk]
  refine congrArg (V m c main_v41) ?_
  blk_ext <;> simp only [e0, e1] <;> omega

/-- and the codebook. -/
theorem iblk_cb (t : Fin cfg0.N) (k : Fin 16) : iblk m c 0 t (ix1 k) = V m c main_v3 (ix1 k) := by
  have e0 := index_cb t
  blk_simp [iblk]
  refine congrArg (V m c main_v3) ?_
  blk_ext <;> simp only [e0] <;> omega

/-- The codes that a point reads are those of its 512 rows, -/
theorem iblk_codes (t : Fin cfg0.N) (i : Fin 512) (k : Fin 2048) (n : Fin 14336) (hn : n.val = 512 * t.val + i.val) :
    iblk m c 5 t (ix2 i k) = argW m c n k := by
  obtain ⟨e0, e1⟩ := index_codes t
  blk_simp [iblk]
  rw [V_main_arg3]
  refine congrArg (m (c, Proc.tc.devRef main_arg3)) ?_
  blk_ext <;> simp only [e0, e1] <;> omega

/-- and so are the scales. -/
theorem iblk_scales (t : Fin cfg0.N) (i : Fin 512) (s : Fin 4) (n : Fin 14336) (hn : n.val = 512 * t.val + i.val) :
    iblk m c 6 t (ix2 i s) = argG m c n s := by
  obtain ⟨e0, e1⟩ := index_scales t
  blk_simp [iblk]
  rw [V_main_arg4]
  refine congrArg (m (c, Proc.tc.devRef main_arg4)) ?_
  blk_ext <;> simp only [e0, e1] <;> omega

/-! ## The results -/

/-- The signed activations of the arguments. -/
def argA : Fin 1152 → Fin 4096 → EReal := act (argX m c) (argS m c)

/-- The rotated activations of the arguments: the second result. -/
def outR : FVec Ideal S1152x4096 .bf16 := fun y => rotated c32 (argA m c) (y 0) (y 1)

/-- Their product with the transposed weights of the arguments: the first result. -/
def outY : FVec Ideal S1152x14336 .bf16 := fun y =>
  ∑ col : Fin 4096, rotated c32 (argA m c) (y 0) col * weight (argC m c) (argW m c) (argG m c) (y 1) col

/-- What the kernel multiplies is the signed activations, -/
theorem signed_eq (r : Fin 1152) (q : Fin 4096) :
    HMul.hMul (α := EReal) (β := EReal) (γ := EReal) (iblk m c 1 pt0 (ix2 r q)) (iblk m c 2 pt0 (ix2 (0 : Fin 1) q))
      = argA m c r q := by
  rw [iblk_x, iblk_sg, V_x, V_sg]
  rfl

/-- the entries of the Hadamard matrix, -/
theorem had_eq (i b : Fin 256) : (iblk m c 3 pt0 : FVec Ideal S256x256 .bf16) (ix2 i b) = ((had i.val (kcol b.val) : ℝ) : EReal) := by
  rw [iblk_had, V_had]

/-- and those of the permutation matrix. -/
theorem perm_eq (i b : Fin 256) :
    (iblk m c 4 pt0 : FVec Ideal S256x256 .bf16) (ix2 i b) = if kcol i.val = b.val then (1 : EReal) else 0 := by
  rw [iblk_perm, V_perm]

/-- Finite inputs have finite signed activations. -/
theorem argA_finite (hx : ∀ i j q, ∃ z : ℝ, argX m c i j q = (z : EReal)) (r : Fin 1152) (q : Fin 4096) :
    ∃ z : ℝ, argA m c r q = (z : EReal) := by
  obtain ⟨z, hz⟩ := hx ⟨r.val / 384, by omega⟩ ⟨r.val % 384, by omega⟩ q
  exact ⟨z * (((argS m c q).signExtend 32).toInt : ℝ), by unfold argA act; rw [hz, EReal.coe_mul]⟩

variable (hx : ∀ i j q, ∃ z : ℝ, argX m c i j q = (z : EReal))

include hx

/-- The second output array after the run. -/
theorem arr8 : (dats m 0 c).arrAt 8 cfg0.N = outR m c := by
  refine (dats m 0 c).arrAt_eq_of_after_last 8 ⟨27, by rw [show cfg0.N = 28 from N_0]; decide⟩ (by decide +kernel) _ fun j => ?_
  rw [after0_8]
  exact XR_rotated _ _ _ _ (argA m c) (signed_eq m c) (argA_finite m c hx) (had_eq m c) (perm_eq m c) j

/-- What a point leaves in the first output's block. -/
theorem yv_at (t : Fin cfg0.N) (y : S1152x512.Idx) (n : Fin 14336) (hn : n.val = 512 * t.val + (y 1).val) :
    yv m c t y = ∑ col : Fin 4096, rotated c32 (argA m c) (y 0) col * weight (argC m c) (argW m c) (argG m c) n col := by
  rw [← sum_deint]
  unfold yv Y
  refine Finset.sum_congr rfl fun k _ => congrArg₂ (fun u v : EReal => u * v) ?_ ?_
  · exact XD_rotated _ _ _ (argA m c) (signed_eq m c) (argA_finite m c hx) (had_eq m c) (ix2 (y 0) k)
  · have e : (fun k => (iblk m c 0 t : FVec Ideal S16 .f32) (ix1 k)) = argC m c := funext fun k => by rw [iblk_cb, V_cb]
    rw [← e, ← deq_weight, ← iblk_codes m c t (y 1) _ n hn, ← iblk_scales m c t (y 1) _ n hn]
    rfl

/-- The first output array after the run. -/
theorem arr7 : (dats m 0 c).arrAt 7 cfg0.N = outY m c := by
  refine (dats m 0 c).arrAt_eq_of_covers 7 _ (by decide +kernel) fun t hf y => ?_
  obtain ⟨e0, e1⟩ := index_y t
  have hN : t.val < 28 := lt_of_lt_of_eq t.isLt N_0
  have hy : (y 1).val < 512 := (y 1).isLt
  blk_simp
  rw [after0_7]
  have e : (win0_7.blk t).view.emb y = ix2 (y 0 : Fin 1152) (⟨512 * t.val + (y 1).val, by omega⟩ : Fin 14336) := by
    blk_ext <;> simp only [e0, e1] <;> omega
  rw [e]
  exact yv_at m c hx t y _ rfl

end Cert.KernelIdeal.Hand

end
-- ==== Proof.RefValues.lean ====
/- What the reference computes, index by index, in the plain formulas of the mathematics: the rotated activations, the
   dequantized weights of the even and of the odd columns, and the product. -/
module

public import proofs.«01_k».proof.Proof.Gen.ReferenceIdeal.Read
public import proofs.«01_k».proof.Proof.Math
public import Idealize.ShloMosaic.Lib.Pointwise

@[expose] public section

set_option maxRecDepth 16384

noncomputable section

namespace Cert.ReferenceIdeal.Hand

open Cert.ReferenceIdeal Cert.ReferenceIdeal.Read
open Idealize.ShloMosaic Idealize.ShloMosaic.TcCoe Cert.Hand

variable (x0 : FVec Ideal S3x384x4096 .bf16) (x1 : IVec S4096 8) (x2 : FVec Ideal S16 .bf16)
  (x3 : IVec S14336x2048 8) (x4 : FVec Ideal S14336x4 .f32)

/-- The constant 1/32 of the reference, as its bit pattern denotes it. -/
def c32 : EReal := Ideal.ofBits .f32 0x3D000000#32

/-- The rotated activations at the even columns of a group. -/
theorem ref_even (r : Fin 1152) (g : Fin 4) (j : Fin 512) :
    val_main_v49 (F := Ideal) x0 x1 (ix3 r g j)
      = rotated c32 (act (fun a b q => x0 (ix3 a b q)) (fun q => x1 (ix1 q))) r ⟨1024 * g.val + (2 * j.val + 0), by omega⟩ := by
  pointwise [
    val_main_v0, val_main_v1, val_main_v2, val_main_v3, val_main_v4, val_main_v5, val_main_v6, val_main_v7,
    val_main_v8, val_main_v9, val_main_v10, val_main_v11, val_main_v12, val_main_c, val_main_v13, val_main_v14,
    val_main_c_0, val_main_v15, val_main_v16, val_main_v17, val_main_v18, val_main_c_1, val_main_v19, val_main_v20,
    val_main_c_2, val_main_v21, val_main_v22, val_main_c_3, val_main_v23, val_main_v24, val_main_v25, val_main_v26,
    val_main_cst, val_main_v47, val_main_v48, val_main_v49]
  unfold rotated
  refine congrArg (· * c32) (Finset.sum_congr rfl fun i _ => ?_)
  have e1 : (1024 * g.val + (2 * j.val + 0)) % 1024 = 2 * j.val + 0 := by omega
  have e2 : (⟨g.val * 1024 + i.val, by omega⟩ : Fin 4096) = ⟨1024 * ((1024 * g.val + (2 * j.val + 0)) / 1024) + i.val, by omega⟩ :=
    Fin.ext (by show g.val * 1024 + i.val = 1024 * ((1024 * g.val + (2 * j.val + 0)) / 1024) + i.val; omega)
  refine congrArg₂ (· * ·) (congrArg (act (fun a b q => x0 (ix3 a b q)) (fun q => x1 (ix1 q)) r) e2) ?_
  show ((((IntOp.subi _ _).toInt : ℤ) : ℝ) : EReal) = ((had i.val ((1024 * g.val + (2 * j.val + 0)) % 1024) : ℝ) : EReal)
  rw [e1]
  exact congrArg (fun z : ℤ => ((z : ℝ) : EReal)) (had_word i.val (2 * j.val + 0) _ (word_two_mul_add j.val 0))

/-- The rotated activations at the odd columns of a group. -/
theorem ref_odd (r : Fin 1152) (g : Fin 4) (j : Fin 512) :
    val_main_v52 (F := Ideal) x0 x1 (ix3 r g j)
      = rotated c32 (act (fun a b q => x0 (ix3 a b q)) (fun q => x1 (ix1 q))) r ⟨1024 * g.val + (2 * j.val + 1), by omega⟩ := by
  pointwise [
    val_main_v0, val_main_v1, val_main_v2, val_main_v3, val_main_v4, val_main_v5, val_main_v6, val_main_v27,
    val_main_v28, val_main_v29, val_main_v30, val_main_v31, val_main_v32, val_main_c_4, val_main_v33, val_main_v34,
    val_main_c_5, val_main_v35, val_main_v36, val_main_v37, val_main_v38, val_main_c_6, val_main_v39, val_main_v40,
    val_main_c_7, val_main_v41, val_main_v42, val_main_c_8, val_main_v43, val_main_v44, val_main_v45, val_main_v46,
    val_main_cst_9, val_main_v50, val_main_v51, val_main_v52]
  unfold rotated
  refine congrArg (· * c32) (Finset.sum_congr rfl fun i _ => ?_)
  have e1 : (1024 * g.val + (2 * j.val + 1)) % 1024 = 2 * j.val + 1 := by omega
  have e2 : (⟨g.val * 1024 + i.val, by omega⟩ : Fin 4096) = ⟨1024 * ((1024 * g.val + (2 * j.val + 1)) / 1024) + i.val, by omega⟩ :=
    Fin.ext (by show g.val * 1024 + i.val = 1024 * ((1024 * g.val + (2 * j.val + 1)) / 1024) + i.val; omega)
  refine congrArg₂ (· * ·) (congrArg (act (fun a b q => x0 (ix3 a b q)) (fun q => x1 (ix1 q)) r) e2) ?_
  show ((((IntOp.subi _ _).toInt : ℤ) : ℝ) : EReal) = ((had i.val ((1024 * g.val + (2 * j.val + 1)) % 1024) : ℝ) : EReal)
  rw [e1]
  exact congrArg (fun z : ℤ => ((z : ℝ) : EReal)) (had_word i.val (2 * j.val + 1) _ (word_two_mul_add j.val 1))

/-- The reference's second result: the rotated activations. -/
theorem ref_rotated (y : S1152x4096.Idx) :
    val_main_v56 (F := Ideal) x0 x1 y = rotated c32 (act (fun a b q => x0 (ix3 a b q)) (fun q => x1 (ix1 q))) (y 0) (y 1) := by
  have hy : (y 1).val < 4096 := (y 1).isLt
  pointwise [val_main_v53, val_main_v54, val_main_v55, val_main_v56]
  split
  · refine (ref_even x0 x1 (y 0) _ _).trans (congrArg (rotated c32 _ (y 0)) (Fin.ext ?_))
    show 1024 * ((y 1).val / 1024) + (2 * ((y 1).val / 2 % 512) + 0) = (y 1).val
    omega
  · refine (ref_odd x0 x1 (y 0) _ _).trans (congrArg (rotated c32 _ (y 0)) (Fin.ext ?_))
    show 1024 * ((y 1).val / 1024) + (2 * ((y 1).val / 2 % 512) + 1) = (y 1).val
    omega

/-- The dequantized weights of the even columns. -/
theorem ref_weight_even (n : Fin 14336) (k : Fin 2048) :
    val_main_v138 (F := Ideal) x2 x3 x4 (ix2 n k)
      = weight (fun k => x2 (ix1 k)) (fun n k => x3 (ix2 n k)) (fun n s => x4 (ix2 n s)) n
          ⟨2 * k.val + 0, by omega⟩ := by
  pointwise [
    val_main_v57, val_main_v58, val_main_v59, val_main_c_10, val_main_v60, val_main_v61, val_main_v64, val_main_v65,
    val_main_v66, val_main_v67, val_main_v68, val_main_v69, val_main_v70, val_main_v71, val_main_v72, val_main_v73,
    val_main_v74, val_main_v75, val_main_v76, val_main_v77, val_main_v78, val_main_v79, val_main_v80, val_main_v81,
    val_main_v82, val_main_v83, val_main_v84, val_main_v85, val_main_v86, val_main_v87, val_main_v88, val_main_v89,
    val_main_v90, val_main_v91, val_main_v92, val_main_v93, val_main_v94, val_main_v95, val_main_c_12, val_main_v96,
    val_main_v97, val_main_c_13, val_main_v98, val_main_v99, val_main_c_14, val_main_v100, val_main_v101,
    val_main_call0_v0, val_main_call0_v1, val_main_v102, val_main_call1_v0, val_main_call1_v1, val_main_v103,
    val_main_call2_v0, val_main_call2_v1, val_main_v104, val_main_call3_v0, val_main_call3_v1, val_main_v105,
    val_main_call4_v0, val_main_call4_v1, val_main_v106, val_main_call5_v0, val_main_call5_v1, val_main_v107,
    val_main_call6_v0, val_main_call6_v1, val_main_v108, val_main_call7_v0, val_main_call7_v1, val_main_v109,
    val_main_c_15, val_main_v110, val_main_v111, val_main_c_16, val_main_v112, val_main_v113, val_main_c_17,
    val_main_v114, val_main_v115, val_main_v116, val_main_v117, val_main_v118, val_main_v119, val_main_c_18,
    val_main_v120, val_main_v121, val_main_c_19, val_main_v122, val_main_v123, val_main_c_20, val_main_v124,
    val_main_v125, val_main_v126, val_main_v127, val_main_c_21, val_main_v128, val_main_v129, val_main_c_22,
    val_main_v130, val_main_v131, val_main_c_23, val_main_v132, val_main_v133, val_main_v134, val_main_v135,
    val_main_v136, val_main_v137, val_main_v138]
  exact (congrArg (· * x4 (ix2 n ⟨k.val / 512, by omega⟩)) (refLut_low (fun k => x2 (ix1 k)) (x3 (ix2 n k)))).trans
    (weight_at (fun k => x2 (ix1 k)) (fun n k => x3 (ix2 n k)) (fun n s => x4 (ix2 n s)) n ⟨2 * k.val + 0, by omega⟩ k 0
      ⟨k.val / 512, by omega⟩ (by show (2 * k.val + 0) / 2 = k.val; omega)
      (by show (2 * k.val + 0) % 2 = 0; omega) (by show (2 * k.val + 0) / 1024 = k.val / 512; omega)).symm

/-- The dequantized weights of the odd columns. -/
theorem ref_weight_odd (n : Fin 14336) (k : Fin 2048) :
    val_main_v213 (F := Ideal) x2 x3 x4 (ix2 n k)
      = weight (fun k => x2 (ix1 k)) (fun n k => x3 (ix2 n k)) (fun n s => x4 (ix2 n s)) n
          ⟨2 * k.val + 1, by omega⟩ := by
  pointwise [
    val_main_v57, val_main_v58, val_main_v59, val_main_c_11, val_main_v62, val_main_v63, val_main_v139, val_main_v140,
    val_main_v141, val_main_v142, val_main_v143, val_main_v144, val_main_v145, val_main_v146, val_main_v147,
    val_main_v148, val_main_v149, val_main_v150, val_main_v151, val_main_v152, val_main_v153, val_main_v154,
    val_main_v155, val_main_v156, val_main_v157, val_main_v158, val_main_v159, val_main_v160, val_main_v161,
    val_main_v162, val_main_v163, val_main_v164, val_main_v165, val_main_v166, val_main_v167, val_main_v168,
    val_main_v169, val_main_v170, val_main_c_24, val_main_v171, val_main_v172, val_main_c_25, val_main_v173,
    val_main_v174, val_main_c_26, val_main_v175, val_main_v176, val_main_call15_v0, val_main_call15_v1, val_main_v177,
    val_main_call16_v0, val_main_call16_v1, val_main_v178, val_main_call17_v0, val_main_call17_v1, val_main_v179,
    val_main_call18_v0, val_main_call18_v1, val_main_v180, val_main_call19_v0, val_main_call19_v1, val_main_v181,
    val_main_call20_v0, val_main_call20_v1, val_main_v182, val_main_call21_v0, val_main_call21_v1, val_main_v183,
    val_main_call22_v0, val_main_call22_v1, val_main_v184, val_main_c_27, val_main_v185, val_main_v186, val_main_c_28,
    val_main_v187, val_main_v188, val_main_c_29, val_main_v189, val_main_v190, val_main_v191, val_main_v192,
    val_main_v193, val_main_v194, val_main_c_30, val_main_v195, val_main_v196, val_main_c_31, val_main_v197,
    val_main_v198, val_main_c_32, val_main_v199, val_main_v200, val_main_v201, val_main_v202, val_main_c_33,
    val_main_v203, val_main_v204, val_main_c_34, val_main_v205, val_main_v206, val_main_c_35, val_main_v207,
    val_main_v208, val_main_v209, val_main_v210, val_main_v211, val_main_v212, val_main_v213]
  exact (congrArg (· * x4 (ix2 n ⟨k.val / 512, by omega⟩)) (refLut_high (fun k => x2 (ix1 k)) (x3 (ix2 n k)))).trans
    (weight_at (fun k => x2 (ix1 k)) (fun n k => x3 (ix2 n k)) (fun n s => x4 (ix2 n s)) n ⟨2 * k.val + 1, by omega⟩ k 1
      ⟨k.val / 512, by omega⟩ (by show (2 * k.val + 1) / 2 = k.val; omega)
      (by show (2 * k.val + 1) % 2 = 1; omega) (by show (2 * k.val + 1) / 1024 = k.val / 512; omega)).symm

/-- The reference's first result: the product of the rotated activations and the transposed weights. -/
theorem ref_product (y : S1152x14336.Idx) :
    val_main_v219 (F := Ideal) x0 x1 x2 x3 x4 y
      = ∑ col : Fin 4096, rotated c32 (act (fun a b q => x0 (ix3 a b q)) (fun q => x1 (ix1 q))) (y 0) col
          * weight (fun k => x2 (ix1 k)) (fun n k => x3 (ix2 n k)) (fun n s => x4 (ix2 n s)) (y 1) col := by
  pointwise [val_main_v214, val_main_v215, val_main_v216, val_main_v217, val_main_v218, val_main_v219]
  rw [← sum_even_odd]
  refine congrArg₂ (· + ·) (Finset.sum_congr rfl fun k _ => ?_) (Finset.sum_congr rfl fun k _ => ?_)
  · refine congrArg₂ (· * ·) ((ref_even x0 x1 (y 0) _ _).trans (congrArg (rotated c32 _ (y 0)) (Fin.ext ?_)))
      (ref_weight_even x2 x3 x4 (y 1) k)
    show 1024 * (k.val / 512) + (2 * (k.val % 512) + 0) = 2 * k.val
    omega
  · refine congrArg₂ (· * ·) ((ref_odd x0 x1 (y 0) _ _).trans (congrArg (rotated c32 _ (y 0)) (Fin.ext ?_)))
      (ref_weight_odd x2 x3 x4 (y 1) k)
    show 1024 * (k.val / 512) + (2 * (k.val % 512) + 1) = 2 * k.val + 1
    omega

end Cert.ReferenceIdeal.Hand

end
-- ==== Proof.Finite.lean ====
/- What the precondition says: every activation is a real number. -/
module

public import proofs.«01_k».proof.Pre_finite_x
public import Idealize.ShloMosaic.Lib.Pointwise

@[expose] public section

noncomputable section

namespace Cert.Hand

open Idealize.ShloMosaic Cert.Pre_finite_x

/-- An extended real whose absolute value is below the top is a real. -/
theorem real_of_abs_lt (x : EReal) (h : max x (-x) < ⊤) : ∃ z : ℝ, x = (z : EReal) := by
  induction x with
  | bot => simp at h
  | top => simp at h
  | coe z => exact ⟨z, rfl⟩

/-- Where the predicate holds, each activation is a real. -/
theorem finite_of_pre [Cert.Pre_finite_x.Facts] (x0 : FVec Ideal S3x384x4096 .bf16) (x1 : IVec S4096 8) (x2 : FVec Ideal S16 .bf16)
    (x3 : IVec S14336x2048 8) (x4 : FVec Ideal S14336x4 .f32) (h : fn (F := Ideal) x0 x1 x2 x3 x4 = fun _ => 1#1)
    (i : Fin 3) (j : Fin 384) (q : Fin 4096) : ∃ z : ℝ, (x0 (ix3 i j q) : EReal) = (z : EReal) := by
  have htop : Ideal.ofBits .f32 0x7F800000#32 = ⊤ := by simp [Ideal.ofBits, Ideal.ieee]
  have e : fn (F := Ideal) x0 x1 x2 x3 x4 (ix3 i j q)
      = BitVec.ofBool (decide (max (x0 (ix3 i j q) : EReal) (-(x0 (ix3 i j q) : EReal)) < Ideal.ofBits .f32 0x7F800000#32)) := by
    pointwise [Cert.Pre_finite_x.fn]
    rfl
  rw [h, htop] at e
  refine real_of_abs_lt _ ?_
  by_contra hc
  rw [decide_eq_false hc] at e
  exact absurd (show (1#1 : BitVec 1) = BitVec.ofBool false from e) (by decide)

end Cert.Hand

end
-- ==== Proof.Algebra.lean ====
/- The two runs with what they leave in their result arrays: the rotated activations and their product with the weights,
   as the same formulas of the argument arrays. -/
module

public import proofs.«01_k».proof.Proof.Values
public import proofs.«01_k».proof.Proof.RefValues
public import proofs.«01_k».proof.Proof.Finite
public import proofs.«01_k».proof.Proof.Gen.ReferenceIdeal.Run
public import Idealize.ShloMosaic.Lib.Claim

@[expose] public section

noncomputable section

namespace Cert.Hand

open Idealize.ShloMosaic Idealize.ShloMosaic.TcCoe Idealize.SL.Sem

/-- The kernel's run: with finite activations its two result arrays hold the product and the rotated activations, and
    its arguments are unchanged. -/
theorem kernel_run
    (m : (ℓ : Loc Cert.KernelIdeal.nD Cert.KernelIdeal.τ Cert.KernelIdeal.sig) → Buf (Elt Ideal) ℓ)
    (ρ : Dev Cert.KernelIdeal.nD → PrngReg)
    (hx : ∀ c i j q, ∃ z : ℝ, Cert.KernelIdeal.Hand.argX m c i j q = (z : EReal)) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v42_0) = Cert.KernelIdeal.Hand.outY m c
        ∧ r.2.mem ((c.tc : Thread Cert.KernelIdeal.nD Cert.KernelIdeal.τ).loc Cert.KernelIdeal.main_v42_1) = Cert.KernelIdeal.Hand.outR m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run _ _ _).mono
    (fun r h c => ⟨(h.1.out_eq c 7).trans (Cert.KernelIdeal.Hand.arr7 m c (hx c)),
      (h.1.out_eq c 8).trans (Cert.KernelIdeal.Hand.arr8 m c (hx c)), h.2 c⟩)
    (θ_run_and (Cert.KernelIdeal.Hand.run_main m ρ) (Cert.KernelIdeal.Hand.unchanged m ρ))

/-- The reference's run: its two result arrays hold the product and the rotated activations, and its arguments are
    unchanged. -/
theorem reference_run
    (m : (ℓ : Loc Cert.ReferenceIdeal.nD Cert.ReferenceIdeal.τ Cert.ReferenceIdeal.sig) → Buf (Elt Ideal) ℓ)
    (ρ : Dev Cert.ReferenceIdeal.nD → PrngReg) (x0 : Dev Cert.ReferenceIdeal.nD → FVec Ideal Cert.ReferenceIdeal.S3x384x4096 .bf16)
    (x1 : Dev Cert.ReferenceIdeal.nD → IVec Cert.ReferenceIdeal.S4096 8) (x2 : Dev Cert.ReferenceIdeal.nD → FVec Ideal Cert.ReferenceIdeal.S16 .bf16)
    (x3 : Dev Cert.ReferenceIdeal.nD → IVec Cert.ReferenceIdeal.S14336x2048 8)
    (x4 : Dev Cert.ReferenceIdeal.nD → FVec Ideal Cert.ReferenceIdeal.S14336x4 .f32)
    (h0 : ∀ c : Dev Cert.ReferenceIdeal.nD, m ((c.tc : Thread Cert.ReferenceIdeal.nD Cert.ReferenceIdeal.τ).loc Cert.ReferenceIdeal.main_arg0) = x0 c)
    (h1 : ∀ c : Dev Cert.ReferenceIdeal.nD, m ((c.tc : Thread Cert.ReferenceIdeal.nD Cert.ReferenceIdeal.τ).loc Cert.ReferenceIdeal.main_arg1) = x1 c)
    (h2 : ∀ c : Dev Cert.ReferenceIdeal.nD, m ((c.tc : Thread Cert.ReferenceIdeal.nD Cert.ReferenceIdeal.τ).loc Cert.ReferenceIdeal.main_arg2) = x2 c)
    (h3 : ∀ c : Dev Cert.ReferenceIdeal.nD, m ((c.tc : Thread Cert.ReferenceIdeal.nD Cert.ReferenceIdeal.τ).loc Cert.ReferenceIdeal.main_arg3) = x3 c)
    (h4 : ∀ c : Dev Cert.ReferenceIdeal.nD, m ((c.tc : Thread Cert.ReferenceIdeal.nD Cert.ReferenceIdeal.τ).loc Cert.ReferenceIdeal.main_arg4) = x4 c) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v219)
          = (fun y => ∑ col : Fin 4096,
              rotated Cert.ReferenceIdeal.Hand.c32 (act (fun a b q => x0 c (ix3 a b q)) (fun q => x1 c (ix1 q))) (y 0) col
                * weight (fun k => x2 c (ix1 k)) (fun n k => x3 c (ix2 n k)) (fun n s => x4 c (ix2 n s)) (y 1) col)
        ∧ r.2.mem ((c.tc : Thread Cert.ReferenceIdeal.nD Cert.ReferenceIdeal.τ).loc Cert.ReferenceIdeal.main_v56)
          = (fun y => rotated Cert.ReferenceIdeal.Hand.c32 (act (fun a b q => x0 c (ix3 a b q)) (fun q => x1 c (ix1 q))) (y 0) (y 1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  refine (θ_run _ _ _).mono (fun r h c => ⟨?_, ?_, (h c).2.2⟩) (Cert.ReferenceIdeal.Value.run m ρ)
  · refine (h c).1.trans ((Cert.ReferenceIdeal.Read.val_main_v219_eq _).trans ?_)
    simp only [StableHlo.launchContents_devRef, h0, h1, h2, h3, h4]
    exact funext fun y => Cert.ReferenceIdeal.Hand.ref_product (x0 c) (x1 c) (x2 c) (x3 c) (x4 c) y
  · refine (h c).2.1.trans ((Cert.ReferenceIdeal.Read.val_main_v56_eq _).trans ?_)
    simp only [StableHlo.launchContents_devRef, h0, h1]
    exact funext fun y => Cert.ReferenceIdeal.Hand.ref_rotated (x0 c) (x1 c) y

end Cert.Hand

end
-- ==== Proof.lean ====
/- The certificate's theorem: the claims of Defs.lean, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_x
public import proofs.«01_k».proof.Proof.KernelFrame
public import proofs.«01_k».proof.Proof.Launch
public import proofs.«01_k».proof.Proof.Ref
public import proofs.«01_k».proof.Proof.Algebra

@[expose] public section

noncomputable section

namespace Cert.Proof

open Idealize.ShloMosaic Idealize.SL.Sem

/-- From equal arguments with finite activations the kernel and the reference end with equal results: the product of
    the rotated activations and the weights, and the rotated activations. -/
theorem algebraic : Cert.algebraic_KernelIdeal_ReferenceIdeal_pre_finite_x (hKernelIdeal := Cert.KernelIdeal.Gen.facts)
    (hReferenceIdeal := Cert.ReferenceIdeal.Gen.facts) (hPre_finite_x := Cert.Pre_finite_x.Gen.facts) :=
  fun m g m' g' hpre hargs =>
    ⟨Cert.KernelIdeal.Hand.outY m, Cert.KernelIdeal.Hand.outR m,
      Cert.Hand.kernel_run m g (fun c i j q => Cert.Hand.finite_of_pre _ _ _ _ _ (hpre c) i j q),
      Cert.Hand.reference_run m' g' _ _ _ _ _ (fun c => (hargs c).1) (fun c => (hargs c).2.1) (fun c => (hargs c).2.2.1)
        (fun c => (hargs c).2.2.2.1) (fun c => (hargs c).2.2.2.2)⟩

/-- The kernel, its ideal reading and the reference run to the end with their arguments unchanged and every counter at
    zero; the ideal reading is the kernel's own; and the kernel's results are the reference's. -/
theorem claim : Cert.Claim :=
  ⟨Cert.Kernel.Gen.facts, Cert.KernelIdeal.Gen.facts, Cert.ReferenceIdeal.Gen.facts, Cert.Pre_finite_x.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Hand.frame m ρ,
    fun m ρ _ => Cert.ReferenceIdeal.Hand.frame m ρ,
    trivial,
    algebraic⟩

end Cert.Proof

end
